-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v69_0)) (v1 : (c : Dev Cert.Kernel5Ideal.nD) → Buf (Elt Ideal) ((c.tc : Thread Cert.Kernel5Ideal.nD Cert.Kernel5Ideal.τ).loc Cert.Kernel5Ideal.main_v69_1)) (v2 : (c : Dev Cert.Kernel5Ideal.nD) → Buf (Elt Ideal) ((c.tc : Thread Cert.Kernel5Ideal.nD Cert.Kernel5Ideal.τ).loc Cert.Kernel5Ideal.main_v69_2)) (v3 : (c : Dev Cert.Kernel5Ideal.nD) → Buf (Elt Ideal) ((c.tc : Thread Cert.Kernel5Ideal.nD Cert.Kernel5Ideal.τ).loc Cert.Kernel5Ideal.main_v69_3)) (v4 : (c : Dev Cert.Kernel5Ideal.nD) → Buf (Elt Ideal) ((c.tc : Thread Cert.Kernel5Ideal.nD Cert.Kernel5Ideal.τ).loc Cert.Kernel5Ideal.main_v69_4)) (v5 : (c : Dev Cert.Kernel5Ideal.nD) → Buf (Elt Ideal) ((c.tc : Thread Cert.Kernel5Ideal.nD Cert.Kernel5Ideal.τ).loc Cert.Kernel5Ideal.main_v69_5)) (v6 : (c : Dev Cert.Kernel5Ideal.nD) → Buf (Elt Ideal) ((c.tc : Thread Cert.Kernel5Ideal.nD Cert.Kernel5Ideal.τ).loc Cert.Kernel5Ideal.main_v69_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v69_0) = v0 c
          ∧ r.2.mem ((c.tc : Thread Cert.Kernel5Ideal.nD Cert.Kernel5Ideal.τ).loc Cert.Kernel5Ideal.main_v69_1) = v1 c
          ∧ r.2.mem ((c.tc : Thread Cert.Kernel5Ideal.nD Cert.Kernel5Ideal.τ).loc Cert.Kernel5Ideal.main_v69_2) = v2 c
          ∧ r.2.mem ((c.tc : Thread Cert.Kernel5Ideal.nD Cert.Kernel5Ideal.τ).loc Cert.Kernel5Ideal.main_v69_3) = v3 c
          ∧ r.2.mem ((c.tc : Thread Cert.Kernel5Ideal.nD Cert.Kernel5Ideal.τ).loc Cert.Kernel5Ideal.main_v69_4) = v4 c
          ∧ r.2.mem ((c.tc : Thread Cert.Kernel5Ideal.nD Cert.Kernel5Ideal.τ).loc Cert.Kernel5Ideal.main_v69_5) = v5 c
          ∧ r.2.mem ((c.tc : Thread Cert.Kernel5Ideal.nD Cert.Kernel5Ideal.τ).loc Cert.Kernel5Ideal.main_v69_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v191) = v0 c
          ∧ r.2.mem ((c.tc : Thread Cert.Reference5Ideal.nD Cert.Reference5Ideal.τ).loc Cert.Reference5Ideal.main_v124) = v1 c
          ∧ r.2.mem ((c.tc : Thread Cert.Reference5Ideal.nD Cert.Reference5Ideal.τ).loc Cert.Reference5Ideal.main_v190) = v2 c
          ∧ r.2.mem ((c.tc : Thread Cert.Reference5Ideal.nD Cert.Reference5Ideal.τ).loc Cert.Reference5Ideal.main_v192) = v3 c
          ∧ r.2.mem ((c.tc : Thread Cert.Reference5Ideal.nD Cert.Reference5Ideal.τ).loc Cert.Reference5Ideal.main_v26) = v4 c
          ∧ r.2.mem ((c.tc : Thread Cert.Reference5Ideal.nD Cert.Reference5Ideal.τ).loc Cert.Reference5Ideal.main_v193) = v5 c
          ∧ r.2.mem ((c.tc : Thread Cert.Reference5Ideal.nD Cert.Reference5Ideal.τ).loc Cert.Reference5Ideal.main_v31) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel2.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 10
  | .vmem => 8
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16640x1024, .f32⟩
  | .hbm, ⟨6, _⟩ => ⟨S_, .f32⟩
  | .hbm, ⟨7, _⟩ => ⟨S16640, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S16640x1024, .f32⟩
  | .hbm, ⟨17, _⟩ => ⟨S16640x1024, .f32⟩
  | .hbm, ⟨18, _⟩ => ⟨S1x1024, .f32⟩
  | .hbm, ⟨19, _⟩ => ⟨S16640x1024, .f32⟩
  | .hbm, ⟨20, _⟩ => ⟨S16640x1024, .f32⟩
  | .hbm, ⟨21, _⟩ => ⟨S16640x2816, .f32⟩
  | .hbm, ⟨22, _⟩ => ⟨S16640x2816, .f32⟩
  | .hbm, ⟨23, _⟩ => ⟨S16640x2816, .f32⟩
  | .hbm, ⟨24, _⟩ => ⟨S_, .f32⟩
  | .hbm, ⟨25, _⟩ => ⟨S16640x2816, .f32⟩
  | .hbm, ⟨26, _⟩ => ⟨S16640x2816, .f32⟩
  | .hbm, ⟨27, _⟩ => ⟨S_, .f32⟩
  | .hbm, ⟨28, _⟩ => ⟨S16640x2816, .f32⟩
  | .hbm, ⟨29, _⟩ => ⟨S16640x2816, .f32⟩
  | .hbm, ⟨30, _⟩ => ⟨S16640x2816, .f32⟩
  | .hbm, ⟨31, _⟩ => ⟨S16640x2816, .f32⟩
  | .hbm, ⟨32, _⟩ => ⟨S16640x2816, .f32⟩
  | .hbm, ⟨33, _⟩ => ⟨S16640x1024, .f32⟩
  | .hbm, ⟨34, _⟩ => ⟨S_, .f32⟩
  | .hbm, ⟨35, _⟩ => ⟨S16640x1024, .f32⟩
  | .hbm, ⟨36, _⟩ => ⟨S16640x1024, .f32⟩
  | .hbm, ⟨37, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S16640x1024 : Shape := ⟨2, ![16640, 1024]⟩
abbrev S16640x256 : Shape := ⟨2, ![16640, 256]⟩
abbrev S16640x4096 : Shape := ⟨2, ![16640, 4096]⟩
abbrev S4x256x1024 : Shape := ⟨3, ![4, 256, 1024]⟩
abbrev S1024x1024 : Shape := ⟨2, ![1024, 1024]⟩
abbrev S256x1024 : Shape := ⟨2, ![256, 1024]⟩
abbrev S256x256 : Shape := ⟨2, ![256, 256]⟩
abbrev S256x4096 : Shape := ⟨2, ![256, 4096]⟩
abbrev S1x256x1024 : Shape := ⟨3, ![1, 256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S16640x1024, .f32⟩
  | .hbm, ⟨1, _⟩ => ⟨S16640x256, .f32⟩
  | .hbm, ⟨2, _⟩ => ⟨S16640x256, .f32⟩
  | .hbm, ⟨3, _⟩ => ⟨S16640x256, .f32⟩
  | .hbm, ⟨4, _⟩ => ⟨S16640x256, .f32⟩
  | .hbm, ⟨5, _⟩ => ⟨S16640x4096, .f32⟩
  | .hbm, ⟨6, _⟩ => ⟨S4x256x1024, .f32⟩
  | .hbm, ⟨7, _⟩ => ⟨S1024x1024, .f32⟩
  | .hbm, ⟨8, _⟩ => ⟨S4x256x1024, .bf16⟩
  | .hbm, ⟨9, _⟩ => ⟨S1024x1024, .bf16⟩
  | .hbm, ⟨10, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x4096, .f32⟩
  | .local _ .vmem, ⟨11, _⟩ => ⟨S256x4096, .f32⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16640x1024 : Shape := ⟨2, ![16640, 1024]⟩
abbrev S16640x256 : Shape := ⟨2, ![16640, 256]⟩
abbrev S16640x4096 : Shape := ⟨2, ![16640, 4096]⟩
abbrev S4x256x1024 : Shape := ⟨3, ![4, 256, 1024]⟩
abbrev S1024x1024 : Shape := ⟨2, ![1024, 1024]⟩
abbrev S16640x1x256 : Shape := ⟨3, ![16640, 1, 256]⟩
abbrev S16640x4x256 : Shape := ⟨3, ![16640, 4, 256]⟩
abbrev S4x1024x16640 : Shape := ⟨3, ![4, 1024, 16640]⟩
abbrev S16640x4x1024 : Shape := ⟨3, ![16640, 4, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x256, .f32⟩
  | .hbm, ⟨2, _⟩ => ⟨S16640x256, .f32⟩
  | .hbm, ⟨3, _⟩ => ⟨S16640x256, .f32⟩
  | .hbm, ⟨4, _⟩ => ⟨S16640x256, .f32⟩
  | .hbm, ⟨5, _⟩ => ⟨S16640x4096, .f32⟩
  | .hbm, ⟨6, _⟩ => ⟨S4x256x1024, .f32⟩
  | .hbm, ⟨7, _⟩ => ⟨S1024x1024, .f32⟩
  | .hbm, ⟨8, _⟩ => ⟨S16640x1x256, .f32⟩
  | .hbm, ⟨9, _⟩ => ⟨S16640x1x256, .f32⟩
  | .hbm, ⟨10, _⟩ => ⟨S16640x1x256, .f32⟩
  | .hbm, ⟨11, _⟩ => ⟨S16640x1x256, .f32⟩
  | .hbm, ⟨12, _⟩ => ⟨S16640x4x256, .f32⟩
  | .hbm, ⟨13, _⟩ => ⟨S4x1024x16640, .f32⟩
  | .hbm, ⟨14, _⟩ => ⟨S16640x4x1024, .f32⟩
  | .hbm, ⟨15, _⟩ => ⟨S16640x4x1024, .f32⟩
  | .hbm, ⟨16, _⟩ => ⟨S16640x4x1024, .f32⟩
  | .hbm, ⟨17, _⟩ => ⟨S16640x4x1024, .f32⟩
  | .hbm, ⟨18, _⟩ => ⟨S_, .f32⟩
  | .hbm, ⟨19, _⟩ => ⟨S16640x4x1024, .f32⟩
  | .hbm, ⟨20, _⟩ => ⟨S16640x4x1024, .f32⟩
  | .hbm, ⟨21, _⟩ => ⟨S_, .f32⟩
  | .hbm, ⟨22, _⟩ => ⟨S16640x4x1024, .f32⟩
  | .hbm, ⟨23, _⟩ => ⟨S16640x4x1024, .f32⟩
  | .hbm, ⟨24, _⟩ => ⟨S16640x1024, .f32⟩
  | .hbm, ⟨25, _⟩ => ⟨S16640x1024, .f32⟩
  | .hbm, ⟨26, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel4.lean ====
abbrev S16640x1024 : Shape := ⟨2, ![16640, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1x1024, .f32⟩
  | .hbm, ⟨3, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16640x1024 : Shape := ⟨2, ![16640, 1024]⟩
abbrev S1024 : Shape := ⟨1, ![1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16640x1024, .f32⟩
  | .hbm, ⟨3, _⟩ => ⟨S_, .f32⟩
  | .hbm, ⟨4, _⟩ => ⟨S16640, .f32⟩
  | .hbm, ⟨5, _⟩ => ⟨S16640x1, .f32⟩
  | .hbm, ⟨6, _⟩ => ⟨S_, .f32⟩
  | .hbm, ⟨7, _⟩ => ⟨S16640x1, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S16640x1, .f32⟩
  | .hbm, ⟨13, _⟩ => ⟨S16640x1024, .f32⟩
  | .hbm, ⟨14, _⟩ => ⟨S16640x1024, .f32⟩
  | .hbm, ⟨15, _⟩ => ⟨S1x1024, .f32⟩
  | .hbm, ⟨16, _⟩ => ⟨S16640x1024, .f32⟩
  | .hbm, ⟨17, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S16640x1024 : Shape := ⟨2, ![16640, 1024]⟩
abbrev S1024 : Shape := ⟨1, ![1024]⟩
abbrev S1024x8536 : Shape := ⟨2, ![1024, 8536]⟩
abbrev S16640 : Shape := ⟨1, ![16640]⟩
abbrev S64 : Shape := ⟨1, ![64]⟩
abbrev S4 : Shape := ⟨1, ![4]⟩
abbrev S32 : Shape := ⟨1, ![32]⟩
abbrev S_ : Shape := ⟨0, ![]⟩
abbrev S16640x1 : Shape := ⟨2, ![16640, 1]⟩
abbrev S1x32 : Shape := ⟨2, ![1, 32]⟩
abbrev S16640x32 : Shape := ⟨2, ![16640, 32]⟩
abbrev S16640x128 : Shape := ⟨2, ![16640, 128]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x4 : Shape := ⟨2, ![1024, 4]⟩
abbrev S1024x1024 : Shape := ⟨2, ![1024, 1024]⟩
abbrev S1024x768 : Shape := ⟨2, ![1024, 768]⟩
abbrev S1024x4096 : Shape := ⟨2, ![1024, 4096]⟩
abbrev S1024x40 : Shape := ⟨2, ![1024, 40]⟩
abbrev S1024x128 : Shape := ⟨2, ![1024, 128]⟩
abbrev S1024x8576 : Shape := ⟨2, ![1024, 8576]⟩
abbrev S128 : Shape := ⟨1, ![128]⟩
abbrev S1 : Shape := ⟨1, ![1]⟩
abbrev S1x128 : Shape := ⟨2, ![1, 128]⟩
abbrev S8x128 : Shape := ⟨2, ![8, 128]⟩
abbrev S1x1024 : Shape := ⟨2, ![1, 1024]⟩
abbrev S16640x768 : Shape := ⟨2, ![16640, 768]⟩
abbrev S16640x512 : Shape := ⟨2, ![16640, 512]⟩
abbrev S16640x4096 : Shape := ⟨2, ![16640, 4096]⟩
abbrev S256x1024 : Shape := ⟨2, ![256, 1024]⟩
abbrev S256x128 : Shape := ⟨2, ![256, 128]⟩
abbrev S256x768 : Shape := ⟨2, ![256, 768]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩
abbrev S256x256 : Shape := ⟨2, ![256, 256]⟩

abbrev nBuf : Space → Nat
  | .hbm => 100
  | .vmem => 25
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x8536, .f32⟩
  | .hbm, ⟨3, _⟩ => ⟨S16640, .i32⟩
  | .hbm, ⟨4, _⟩ => ⟨S64, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S16640, .f32⟩
  | .hbm, ⟨18, _⟩ => ⟨S16640x1, .f32⟩
  | .hbm, ⟨19, _⟩ => ⟨S1x32, .f32⟩
  | .hbm, ⟨20, _⟩ => ⟨S16640x32, .f32⟩
  | .hbm, ⟨21, _⟩ => ⟨S16640x32, .f32⟩
  | .hbm, ⟨22, _⟩ => ⟨S16640x32, .f32⟩
  | .hbm, ⟨23, _⟩ => ⟨S16640x32, .f32⟩
  | .hbm, ⟨24, _⟩ => ⟨S16640x32, .f32⟩
  | .hbm, ⟨25, _⟩ => ⟨S_, .f32⟩
  | .hbm, ⟨26, _⟩ => ⟨S16640x32, .f32⟩
  | .hbm, ⟨27, _⟩ => ⟨S16640x128, .f32⟩
  | .hbm, ⟨28, _⟩ => ⟨S16640x32, .f32⟩
  | .hbm, ⟨29, _⟩ => ⟨S16640x128, .f32⟩
  | .hbm, ⟨30, _⟩ => ⟨S16640x128, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x512, .f32⟩
  | .hbm, ⟨35, _⟩ => ⟨S1024x64, .f32⟩
  | .hbm, ⟨36, _⟩ => ⟨S1024x8, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S1024x4, .f32⟩
  | .hbm, ⟨41, _⟩ => ⟨S1024x4, .f32⟩
  | .hbm, ⟨42, _⟩ => ⟨S1024x256, .f32⟩
  | .hbm, ⟨43, _⟩ => ⟨S1024x1024, .f32⟩
  | .hbm, ⟨44, _⟩ => ⟨S1024x768, .f32⟩
  | .hbm, ⟨45, _⟩ => ⟨S1024x4, .f32⟩
  | .hbm, ⟨46, _⟩ => ⟨S1024x4, .f32⟩
  | .hbm, ⟨47, _⟩ => ⟨S1024x256, .f32⟩
  | .hbm, ⟨48, _⟩ => ⟨S1024x4096, .f32⟩
  | .hbm, ⟨49, _⟩ => ⟨S_, .f32⟩
  | .hbm, ⟨50, _⟩ => ⟨S1024x40, .f32⟩
  | .hbm, ⟨51, _⟩ => ⟨S1024x128, .f32⟩
  | .hbm, ⟨52, _⟩ => ⟨S1024x8576, .f32⟩
  | .hbm, ⟨53, _⟩ => ⟨S1024x8576, .bf16⟩
  | .hbm, ⟨54, _⟩ => ⟨S_, .f32⟩
  | .hbm, ⟨55, _⟩ => ⟨S128, .f32⟩
  | .hbm, ⟨56, _⟩ => ⟨S_, .i32⟩
  | .hbm, ⟨57, _⟩ => ⟨S1, .i32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S_, .i32⟩
  | .hbm, ⟨62, _⟩ => ⟨S1, .i32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S_, .i32⟩
  | .hbm, ⟨67, _⟩ => ⟨S1, .i32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S_, .i32⟩
  | .hbm, ⟨73, _⟩ => ⟨S1, .i32⟩
  | .hbm, ⟨74, _⟩ => ⟨S128, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S_, .i32⟩
  | .hbm, ⟨79, _⟩ => ⟨S1, .i32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S8x128, .f32⟩
  | .hbm, ⟨92, _⟩ => ⟨S1x1024, .f32⟩
  | .hbm, ⟨93, _⟩ => ⟨S16640x768, .f32⟩
  | .hbm, ⟨94, _⟩ => ⟨S16640x512, .f32⟩
  | .hbm, ⟨95, _⟩ => ⟨S16640x128, .f32⟩
  | .hbm, ⟨96, _⟩ => ⟨S16640x1024, .f32⟩
  | .hbm, ⟨97, _⟩ => ⟨S16640x1024, .f32⟩
  | .hbm, ⟨98, _⟩ => ⟨S16640x1024, .f32⟩
  | .hbm, ⟨99, _⟩ => ⟨S16640x4096, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x8576, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S8x128, .f32⟩
  | .local _ .vmem, ⟨11, _⟩ => ⟨S256x768, .f32⟩
  | .local _ .vmem, ⟨12, _⟩ => ⟨S256x768, .f32⟩
  | .local _ .vmem, ⟨13, _⟩ => ⟨S256x512, .f32⟩
  | .local _ .vmem, ⟨14, _⟩ => ⟨S256x512, .f32⟩
  | .local _ .vmem, ⟨15, _⟩ => ⟨S256x128, .f32⟩
  | .local _ .vmem, ⟨16, _⟩ => ⟨S256x128, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x4096, .f32⟩
  | .local _ .vmem, ⟨24, _⟩ => ⟨S256x4096, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69_0 : Ref sig .tc := ⟨.hbm, 93, rfl⟩
abbrev main_v69_1 : Ref sig .tc := ⟨.hbm, 94, rfl⟩
abbrev main_v69_2 : Ref sig .tc := ⟨.hbm, 95, rfl⟩
abbrev main_v69_3 : Ref sig .tc := ⟨.hbm, 96, rfl⟩
abbrev main_v69_4 : Ref sig .tc := ⟨.hbm, 97, rfl⟩
abbrev main_v69_5 : Ref sig .tc := ⟨.hbm, 98, rfl⟩
abbrev main_v69_6 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16640x1024 : Shape := ⟨2, ![16640, 1024]⟩
abbrev S1024 : Shape := ⟨1, ![1024]⟩
abbrev S1024x8536 : Shape := ⟨2, ![1024, 8536]⟩
abbrev S16640 : Shape := ⟨1, ![16640]⟩
abbrev S64 : Shape := ⟨1, ![64]⟩
abbrev S4 : Shape := ⟨1, ![4]⟩
abbrev S_ : Shape := ⟨0, ![]⟩
abbrev S16640x1 : Shape := ⟨2, ![16640, 1]⟩
abbrev S1x1024 : Shape := ⟨2, ![1, 1024]⟩
abbrev S16640x8536 : Shape := ⟨2, ![16640, 8536]⟩
abbrev S16640x256 : Shape := ⟨2, ![16640, 256]⟩
abbrev S16640x512 : Shape := ⟨2, ![16640, 512]⟩
abbrev S16640x64 : Shape := ⟨2, ![16640, 64]⟩
abbrev S16640x8 : Shape := ⟨2, ![16640, 8]⟩
abbrev S16640x4 : Shape := ⟨2, ![16640, 4]⟩
abbrev S16640x768 : Shape := ⟨2, ![16640, 768]⟩
abbrev S16640x4096 : Shape := ⟨2, ![16640, 4096]⟩
abbrev S16640x4x64 : Shape := ⟨3, ![16640, 4, 64]⟩
abbrev S32 : Shape := ⟨1, ![32]⟩
abbrev S1x32 : Shape := ⟨2, ![1, 32]⟩
abbrev S16640x32 : Shape := ⟨2, ![16640, 32]⟩
abbrev S16640x1x32 : Shape := ⟨3, ![16640, 1, 32]⟩
abbrev S16640x4x32 : Shape := ⟨3, ![16640, 4, 32]⟩
abbrev S16640x8x64 : Shape := ⟨3, ![16640, 8, 64]⟩
abbrev S16640x8x32 : Shape := ⟨3, ![16640, 8, 32]⟩
abbrev S1x64 : Shape := ⟨2, ![1, 64]⟩
abbrev S16640x1x64 : Shape := ⟨3, ![16640, 1, 64]⟩
abbrev S1x4 : Shape := ⟨2, ![1, 4]⟩
abbrev S16640x40 : Shape := ⟨2, ![16640, 40]⟩
abbrev S16640x128 : Shape := ⟨2, ![16640, 128]⟩

abbrev nBuf : Space → Nat
  | .hbm => 249
  | .vmem => 0
  | .smem => 0
  | _ => 0

abbrev hbmTy0_0 (i : Nat) : BufTy := match i % 128 with
  | 0 => ⟨S16640x1024, .f32⟩
  | 1 => ⟨S1024, .f32⟩
  | 2 => ⟨S1024x8536, .f32⟩
  | 3 => ⟨S16640, .i32⟩
  | 4 => ⟨S64, .f32⟩
  | 5 => ⟨S4, .f32⟩
  | 6 => ⟨S4, .f32⟩
  | 7 => ⟨S4, .f32⟩
  | 8 => ⟨S4, .f32⟩
  | 9 => ⟨S16640x1024, .f32⟩
  | 10 => ⟨S_, .f32⟩
  | 11 => ⟨S16640, .f32⟩
  | 12 => ⟨S16640x1, .f32⟩
  | 13 => ⟨S_, .f32⟩
  | 14 => ⟨S16640x1, .f32⟩
  | 15 => ⟨S16640x1, .f32⟩
  | 16 => ⟨S_, .f32⟩
  | 17 => ⟨S16640x1, .f32⟩
  | 18 => ⟨S16640x1, .f32⟩
  | 19 => ⟨S16640x1, .f32⟩
  | 20 => ⟨S16640x1024, .f32⟩
  | 21 => ⟨S16640x1024, .f32⟩
  | 22 => ⟨S1x1024, .f32⟩
  | 23 => ⟨S16640x1024, .f32⟩
  | 24 => ⟨S16640x1024, .f32⟩
  | 25 => ⟨S16640x8536, .f32⟩
  | 26 => ⟨S16640x256, .f32⟩
  | 27 => ⟨S16640x256, .f32⟩
  | 28 => ⟨S16640x256, .f32⟩
  | 29 => ⟨S16640x512, .f32⟩
  | 30 => ⟨S16640x64, .f32⟩
  | 31 => ⟨S16640x8, .f32⟩
  | 32 => ⟨S16640x256, .f32⟩
  | 33 => ⟨S16640x256, .f32⟩
  | 34 => ⟨S16640x256, .f32⟩
  | 35 => ⟨S16640x4, .f32⟩
  | 36 => ⟨S16640x4, .f32⟩
  | 37 => ⟨S16640x256, .f32⟩
  | 38 => ⟨S16640x1024, .f32⟩
  | 39 => ⟨S16640x768, .f32⟩
  | 40 => ⟨S16640x4, .f32⟩
  | 41 => ⟨S16640x4, .f32⟩
  | 42 => ⟨S16640x256, .f32⟩
  | 43 => ⟨S16640x4096, .f32⟩
  | 44 => ⟨S16640x4x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S16640, .f32⟩
  | 54 => ⟨S16640x1, .f32⟩
  | 55 => ⟨S1x32, .f32⟩
  | 56 => ⟨S16640x32, .f32⟩
  | 57 => ⟨S16640x32, .f32⟩
  | 58 => ⟨S16640x32, .f32⟩
  | 59 => ⟨S16640x32, .f32⟩
  | 60 => ⟨S16640x1x32, .f32⟩
  | 61 => ⟨S16640x32, .f32⟩
  | 62 => ⟨S16640x1x32, .f32⟩
  | 63 => ⟨S16640x4x32, .f32⟩
  | 64 => ⟨S16640x4x32, .f32⟩
  | 65 => ⟨S16640x4x32, .f32⟩
  | 66 => ⟨S16640x4x32, .f32⟩
  | 67 => ⟨S16640x4x32, .f32⟩
  | 68 => ⟨S16640x4x32, .f32⟩
  | 69 => ⟨S16640x4x32, .f32⟩
  | 70 => ⟨S16640x4x32, .f32⟩
  | 71 => ⟨S16640x4x32, .f32⟩
  | 72 => ⟨S16640x4x32, .f32⟩
  | 73 => ⟨S16640x4x32, .f32⟩
  | 74 => ⟨S16640x4x32, .f32⟩
  | 75 => ⟨S16640x4x64, .f32⟩
  | 76 => ⟨S16640x256, .f32⟩
  | 77 => ⟨S16640x4x64, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S16640, .f32⟩
  | 87 => ⟨S16640x1, .f32⟩
  | 88 => ⟨S1x32, .f32⟩
  | 89 => ⟨S16640x32, .f32⟩
  | 90 => ⟨S16640x32, .f32⟩
  | 91 => ⟨S16640x32, .f32⟩
  | 92 => ⟨S16640x32, .f32⟩
  | 93 => ⟨S16640x1x32, .f32⟩
  | 94 => ⟨S16640x32, .f32⟩
  | 95 => ⟨S16640x1x32, .f32⟩
  | 96 => ⟨S16640x4x32, .f32⟩
  | 97 => ⟨S16640x4x32, .f32⟩
  | 98 => ⟨S16640x4x32, .f32⟩
  | 99 => ⟨S16640x4x32, .f32⟩
  | 100 => ⟨S16640x4x32, .f32⟩
  | 101 => ⟨S16640x4x32, .f32⟩
  | 102 => ⟨S16640x4x32, .f32⟩
  | 103 => ⟨S16640x4x32, .f32⟩
  | 104 => ⟨S16640x4x32, .f32⟩
  | 105 => ⟨S16640x4x32, .f32⟩
  | 106 => ⟨S16640x4x32, .f32⟩
  | 107 => ⟨S16640x4x32, .f32⟩
  | 108 => ⟨S16640x4x64, .f32⟩
  | 109 => ⟨S16640x256, .f32⟩
  | 110 => ⟨S16640x8x64, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S16640, .f32⟩
  | 120 => ⟨S16640x1, .f32⟩
  | 121 => ⟨S1x32, .f32⟩
  | 122 => ⟨S16640x32, .f32⟩
  | 123 => ⟨S16640x32, .f32⟩
  | 124 => ⟨S16640x32, .f32⟩
  | 125 => ⟨S16640x32, .f32⟩
  | 126 => ⟨S16640x1x32, .f32⟩
  | 127 => ⟨S16640x32, .f32⟩
  | _ => ⟨S16640x1024, .f32⟩

abbrev hbmTy0_1 (i : Nat) : BufTy := match i % 128 with
  | 0 => ⟨S16640x1x32, .f32⟩
  | 1 => ⟨S16640x8x32, .f32⟩
  | 2 => ⟨S16640x8x32, .f32⟩
  | 3 => ⟨S16640x8x32, .f32⟩
  | 4 => ⟨S16640x8x32, .f32⟩
  | 5 => ⟨S16640x8x32, .f32⟩
  | 6 => ⟨S16640x8x32, .f32⟩
  | 7 => ⟨S16640x8x32, .f32⟩
  | 8 => ⟨S16640x8x32, .f32⟩
  | 9 => ⟨S16640x8x32, .f32⟩
  | 10 => ⟨S16640x8x32, .f32⟩
  | 11 => ⟨S16640x8x32, .f32⟩
  | 12 => ⟨S16640x8x32, .f32⟩
  | 13 => ⟨S16640x8x64, .f32⟩
  | 14 => ⟨S16640x512, .f32⟩
  | 15 => ⟨S16640x64, .f32⟩
  | 16 => ⟨S_, .f32⟩
  | 17 => ⟨S16640, .f32⟩
  | 18 => ⟨S16640x1, .f32⟩
  | 19 => ⟨S_, .f32⟩
  | 20 => ⟨S16640x1, .f32⟩
  | 21 => ⟨S16640x1, .f32⟩
  | 22 => ⟨S_, .f32⟩
  | 23 => ⟨S16640x1, .f32⟩
  | 24 => ⟨S16640x1, .f32⟩
  | 25 => ⟨S16640x1, .f32⟩
  | 26 => ⟨S16640x64, .f32⟩
  | 27 => ⟨S16640x64, .f32⟩
  | 28 => ⟨S1x64, .f32⟩
  | 29 => ⟨S16640x64, .f32⟩
  | 30 => ⟨S16640x64, .f32⟩
  | 31 => ⟨S16640x1x64, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S16640, .f32⟩
  | 41 => ⟨S16640x1, .f32⟩
  | 42 => ⟨S1x32, .f32⟩
  | 43 => ⟨S16640x32, .f32⟩
  | 44 => ⟨S16640x32, .f32⟩
  | 45 => ⟨S16640x32, .f32⟩
  | 46 => ⟨S16640x32, .f32⟩
  | 47 => ⟨S16640x1x32, .f32⟩
  | 48 => ⟨S16640x32, .f32⟩
  | 49 => ⟨S16640x1x32, .f32⟩
  | 50 => ⟨S16640x1x32, .f32⟩
  | 51 => ⟨S16640x1x32, .f32⟩
  | 52 => ⟨S16640x1x32, .f32⟩
  | 53 => ⟨S16640x1x32, .f32⟩
  | 54 => ⟨S16640x1x32, .f32⟩
  | 55 => ⟨S16640x1x32, .f32⟩
  | 56 => ⟨S16640x1x32, .f32⟩
  | 57 => ⟨S16640x1x32, .f32⟩
  | 58 => ⟨S16640x1x64, .f32⟩
  | 59 => ⟨S16640x64, .f32⟩
  | 60 => ⟨S_, .f32⟩
  | 61 => ⟨S16640x8, .f32⟩
  | 62 => ⟨S16640x8, .f32⟩
  | 63 => ⟨S1x4, .f32⟩
  | 64 => ⟨S16640x4, .f32⟩
  | 65 => ⟨S16640x4, .f32⟩
  | 66 => ⟨S1x4, .f32⟩
  | 67 => ⟨S16640x4, .f32⟩
  | 68 => ⟨S16640x4, .f32⟩
  | 69 => ⟨S16640x4, .f32⟩
  | 70 => ⟨S_, .f32⟩
  | 71 => ⟨S16640x4, .f32⟩
  | 72 => ⟨S16640x4, .f32⟩
  | 73 => ⟨S16640x4, .f32⟩
  | 74 => ⟨S16640x4, .f32⟩
  | 75 => ⟨S16640x4, .i1⟩
  | 76 => ⟨S16640x4, .f32⟩
  | 77 => ⟨S16640x4, .f32⟩
  | 78 => ⟨S16640x4, .f32⟩
  | 79 => ⟨S16640x4, .f32⟩
  | 80 => ⟨S16640x4, .f32⟩
  | 81 => ⟨S16640x4, .f32⟩
  | 82 => ⟨S16640x4, .f32⟩
  | 83 => ⟨S16640x4, .f32⟩
  | 84 => ⟨S16640x4, .f32⟩
  | 85 => ⟨S16640x4, .f32⟩
  | 86 => ⟨S16640x4, .f32⟩
  | 87 => ⟨S_, .f32⟩
  | 88 => ⟨S16640x4, .f32⟩
  | 89 => ⟨S16640x4, .f32⟩
  | 90 => ⟨S_, .f32⟩
  | 91 => ⟨S16640x4, .f32⟩
  | 92 => ⟨S16640x4, .f32⟩
  | 93 => ⟨S4, .f32⟩
  | 94 => ⟨S4, .f32⟩
  | 95 => ⟨S1x4, .f32⟩
  | 96 => ⟨S16640x4, .f32⟩
  | 97 => ⟨S16640x4, .f32⟩
  | 98 => ⟨S_, .f32⟩
  | 99 => ⟨S16640x4, .f32⟩
  | 100 => ⟨S16640x4, .f32⟩
  | 101 => ⟨S16640x4, .f32⟩
  | 102 => ⟨S16640x4, .f32⟩
  | 103 => ⟨S16640x4, .i1⟩
  | 104 => ⟨S16640x4, .f32⟩
  | 105 => ⟨S16640x4, .f32⟩
  | 106 => ⟨S16640x4, .f32⟩
  | 107 => ⟨S16640x4, .f32⟩
  | 108 => ⟨S16640x4, .f32⟩
  | 109 => ⟨S16640x4, .f32⟩
  | 110 => ⟨S16640x4, .f32⟩
  | 111 => ⟨S16640x4, .f32⟩
  | 112 => ⟨S1x4, .f32⟩
  | 113 => ⟨S16640x4, .f32⟩
  | 114 => ⟨S16640x4, .f32⟩
  | 115 => ⟨S_, .f32⟩
  | 116 => ⟨S16640x40, .f32⟩
  | 117 => ⟨S16640x128, .f32⟩
  | 118 => ⟨S16640x768, .f32⟩
  | 119 => ⟨S16640x1024, .f32⟩
  | 120 => ⟨S16640x1024, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_6 : Ref sig .tc := ⟨.hbm, 113, rfl⟩
abbrev main_v97 : Ref sig .tc := ⟨.hbm, 114, rfl⟩
abbrev main_v98 : Ref sig .tc := ⟨.hbm, 115, rfl⟩
abbrev main_cst_7 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_cst_8 : Ref sig .tc := ⟨.hbm, 144, rfl⟩
abbrev main_v126 : Ref sig .tc := ⟨.hbm, 145, rfl⟩
abbrev main_v127 : Ref sig .tc := ⟨.hbm, 146, rfl⟩
abbrev main_cst_9 : Ref sig .tc := ⟨.hbm, 147, rfl⟩
abbrev main_v128 : Ref sig .tc := ⟨.hbm, 148, rfl⟩
abbrev main_v129 : Ref sig .tc := ⟨.hbm, 149, rfl⟩
abbrev main_cst_10 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_11 : Ref sig .tc := ⟨.hbm, 162, rfl⟩
abbrev main_v141 : Ref sig .tc := ⟨.hbm, 163, rfl⟩
abbrev main_v142 : Ref sig .tc := ⟨.hbm, 164, rfl⟩
abbrev main_cst_12 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_cst_13 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_call0_v0 : Ref sig .tc := ⟨.hbm, 197, rfl⟩
abbrev main_call0_call0_cst : Ref sig .tc := ⟨.hbm, 198, rfl⟩
abbrev main_call0_call0_v0 : Ref sig .tc := ⟨.hbm, 199, rfl⟩
abbrev main_call0_call0_v1 : Ref sig .tc := ⟨.hbm, 200, rfl⟩
abbrev main_call0_call0_v2 : Ref sig .tc := ⟨.hbm, 201, rfl⟩
abbrev main_call0_call0_v3 : Ref sig .tc := ⟨.hbm, 202, rfl⟩
abbrev main_call0_call0_v4 : Ref sig .tc := ⟨.hbm, 203, rfl⟩
abbrev main_call0_call0_v5 : Ref sig .tc := ⟨.hbm, 204, rfl⟩
abbrev main_call0_call0_v6 : Ref sig .tc := ⟨.hbm, 205, rfl⟩
abbrev main_call0_call0_v7 : Ref sig .tc := ⟨.hbm, 206, rfl⟩
abbrev main_call0_call0_v8 : Ref sig .tc := ⟨.hbm, 207, rfl⟩
abbrev main_call0_call0_v9 : Ref sig .tc := ⟨.hbm, 208, rfl⟩
abbrev main_call0_call0_v10 : Ref sig .tc := ⟨.hbm, 209, rfl⟩
abbrev main_call0_call0_v11 : Ref sig .tc := ⟨.hbm, 210, rfl⟩
abbrev main_call0_v1 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_14 : Ref sig .tc := ⟨.hbm, 215, rfl⟩
abbrev main_v176 : Ref sig .tc := ⟨.hbm, 216, rfl⟩
abbrev main_v177 : Ref sig .tc := ⟨.hbm, 217, rfl⟩
abbrev main_cst_15 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_call1_cst : Ref sig .tc := ⟨.hbm, 226, rfl⟩
abbrev main_call1_v0 : Ref sig .tc := ⟨.hbm, 227, rfl⟩
abbrev main_call1_v1 : Ref sig .tc := ⟨.hbm, 228, rfl⟩
abbrev main_call1_v2 : Ref sig .tc := ⟨.hbm, 229, rfl⟩
abbrev main_call1_v3 : Ref sig .tc := ⟨.hbm, 230, rfl⟩
abbrev main_call1_v4 : Ref sig .tc := ⟨.hbm, 231, rfl⟩
abbrev main_call1_v5 : Ref sig .tc := ⟨.hbm, 232, rfl⟩
abbrev main_call1_v6 : Ref sig .tc := ⟨.hbm, 233, rfl⟩
abbrev main_call1_v7 : Ref sig .tc := ⟨.hbm, 234, rfl⟩
abbrev main_call1_v8 : Ref sig .tc := ⟨.hbm, 235, rfl⟩
abbrev main_call1_v9 : Ref sig .tc := ⟨.hbm, 236, rfl⟩
abbrev main_call1_v10 : Ref sig .tc := ⟨.hbm, 237, rfl⟩
abbrev main_call1_v11 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_cst_16 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩

abbrev nD : Nat := 1
abbrev τ : Topo := Topo.v7x

variable {F : FTy → Type} [FloatOps F]
-- ==== Proof.Ffn.lean ====
/- The value of the feed-forward step: the array its kernel leaves is the reference's term over the same arguments. -/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference2Ideal.Ffn

open Cert.Reference2Ideal Cert.Reference2Ideal.Gen

/-- The reference's result over its arguments. -/
abbrev REF (a0 : FVec Ideal S16640x1024 .f32) (a1 : FVec Ideal S1024 .f32) (a2 : FVec Ideal S1024x2816 .f32) (a3 : FVec Ideal S1024x2816 .f32) (a4 : FVec Ideal S2816x1024 .f32) : FVec Ideal S16640x1024 .f32 :=
  addf a0 (mulf (broadcastInDim S16640x1024 ![] bcast_S_S16640x1024 (constant S_ .f32 0x3F000000#32)) (Host.dotGeneral dot_S16640x2816_S2816x1024_S16640x1024_1_0_0_1_n_n none (mulf (mulf (Host.dotGeneral dot_S16640x1024_S1024x2816_S16640x2816_1_0_0_1_n_n none (mulf (mulf a0 (broadcastInDim S16640x1024 ![0, 1] bcast_S16640x1_S16640x1024_0_1 (Host.rsqrt (addf (Host.divf (broadcastInDim S16640x1 ![0] bcast_S16640_S16640x1_0 (Host.reduceAdd (mulf a0 a0) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x358637BD#32)))))) (broadcastInDim S16640x1024 ![0, 1] bcast_S1x1024_S16640x1024_0_1 (broadcastInDim S1x1024 ![1] bcast_S1024_S1x1024_1 a1))) a2) (Host.divf (broadcastInDim S16640x2816 ![] bcast_S_S16640x2816 (constant S_ .f32 0x3F800000#32)) (addf (broadcastInDim S16640x2816 ![] bcast_S_S16640x2816 (constant S_ .f32 0x3F800000#32)) (Host.exp (Host.negf (Host.dotGeneral dot_S16640x1024_S1024x2816_S16640x2816_1_0_0_1_n_n none (mulf (mulf a0 (broadcastInDim S16640x1024 ![0, 1] bcast_S16640x1_S16640x1024_0_1 (Host.rsqrt (addf (Host.divf (broadcastInDim S16640x1 ![0] bcast_S16640_S16640x1_0 (Host.reduceAdd (mulf a0 a0) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x358637BD#32)))))) (broadcastInDim S16640x1024 ![0, 1] bcast_S1x1024_S16640x1024_0_1 (broadcastInDim S1x1024 ![1] bcast_S1024_S1x1024_1 a1))) a2)))))) (Host.dotGeneral dot_S16640x1024_S1024x2816_S16640x2816_1_0_0_1_n_n none (mulf (mulf a0 (broadcastInDim S16640x1024 ![0, 1] bcast_S16640x1_S16640x1024_0_1 (Host.rsqrt (addf (Host.divf (broadcastInDim S16640x1 ![0] bcast_S16640_S16640x1_0 (Host.reduceAdd (mulf a0 a0) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x358637BD#32)))))) (broadcastInDim S16640x1024 ![0, 1] bcast_S1x1024_S16640x1024_0_1 (broadcastInDim S1x1024 ![1] bcast_S1024_S1x1024_1 a1))) a3)) a4))

end Cert.Reference2Ideal.Ffn

namespace Cert.Kernel2Ideal.Ffn

open Cert.Kernel2Ideal Cert.Kernel2Ideal.Gen
open Cert.Reference2Ideal.Ffn (REF)

variable (m : (ℓ : Loc nD τ sig) → Buf (Elt Ideal) ℓ)

/-- Which block of its array each window holds at a grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] :=
  (by decide +kernel : ∀ t : Fin grid0.N, _)

/-- What a grid point stores at an index of its block is the reference's value at that index's place in the array. -/
theorem point (c : Dev nD) (t : Fin cfg0.N) (y) : k0_pay1 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, REF]
  simp only [Ideal.logistic]
  blk_point [iblk, V, idx t]

/-- The array after the run is the reference's term. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.Kernel2Ideal.Ffn

end
-- ==== Proof.FfnClaims.lean ====
/- The claims about the kernel `Kernel2` and its reference. -/
module

public import proofs.«01_k».proof.Defs
public import Idealize.ShloMosaic.Lib.Quiescent
public import proofs.«01_k».proof.Proof.Gen.Kernel2.Frame
public import proofs.«01_k».proof.Proof.Ffn

@[expose] public section

noncomputable section

namespace Cert.Proof

open Idealize.ShloMosaic Idealize.ShloMosaic.TcCoe Idealize.SL.Sem

theorem frame_Kernel2 : @Cert.quiescent_Kernel2 Cert.Kernel2.Gen.facts := fun m ρ _ => Cert.Kernel2.Gen.frame m ρ

theorem frame_Kernel2Ideal : @Cert.quiescent_Kernel2Ideal Cert.Kernel2Ideal.Gen.facts := fun m ρ _ => Cert.Kernel2Ideal.Gen.frame m ρ

theorem frame_Reference2Ideal : @Cert.quiescent_Reference2Ideal Cert.Reference2Ideal.Gen.facts := by
  intro m g _
  exact (θ_run _ _ _).mono (fun r h => ⟨fun c => (h c).2, sem_eq_zero_of_no_sems rfl r.2⟩) (Cert.Reference2Ideal.Value.run m g)

theorem algebraic_2 : @Cert.algebraic_Kernel2Ideal_Reference2Ideal Cert.Kernel2Ideal.Gen.facts Cert.Reference2Ideal.Gen.facts := by
  pair_intro
  · run_from Cert.Kernel2Ideal.Gen.run_main m g
  · run_from Cert.Reference2Ideal.Value.run m' g'
    exact (Cert.Kernel2Ideal.Ffn.final m c).symm

end Cert.Proof

end
-- ==== Proof.Merge.lean ====
/- The value of the gated merge: the array its kernel leaves is the reference's term over the same arguments. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference3Ideal.Merge

open Cert.Reference3Ideal Cert.Reference3Ideal.Gen

/-- The reference's result over its arguments. -/
abbrev REF (a0 : FVec Ideal S16640x1024 .f32) (a1 : FVec Ideal S16640x256 .f32) (a2 : FVec Ideal S16640x256 .f32) (a3 : FVec Ideal S16640x256 .f32) (a4 : FVec Ideal S16640x256 .f32) (a5 : FVec Ideal S16640x4096 .f32) (a6 : FVec Ideal S4x256x1024 .f32) (a7 : FVec Ideal S1024x1024 .f32) : FVec Ideal S16640x1024 .f32 :=
  addf a0 (Host.dotGeneral dot_S16640x1024_S1024x1024_S16640x1024_1_0_0_1_n_n none (Host.dotGeneral dot_S16640x4x1024_S16640x4x1024_S16640x1024_1_1_n_n_02_02 none (Host.divf (broadcastInDim S16640x4x1024 ![] bcast_S_S16640x4x1024 (constant S_ .f32 0x3F800000#32)) (addf (broadcastInDim S16640x4x1024 ![] bcast_S_S16640x4x1024 (constant S_ .f32 0x3F800000#32)) (Host.exp (Host.negf (shapeCast _ a5 shapeCasts_S16640x4096_S16640x4x1024))))) (transpose S16640x4x1024 [2, 0, 1] (Host.dotGeneral (φ₁ := .f32) (φ₂ := .f32) dot_S4x256x1024_S16640x4x256_S4x1024x16640_1_2_2_0_0_1 none a6 ((concatenate S16640x4x256 1 [⟨S16640x1x256, ((broadcastInDim S16640x1x256 ![0, 2] bcast_S16640x256_S16640x1x256_0_2 a1) : (⟨S16640x1x256, .f32⟩ : BufTy).Contents (Elt Ideal))⟩, ⟨S16640x1x256, ((broadcastInDim S16640x1x256 ![0, 2] bcast_S16640x256_S16640x1x256_0_2 a2) : (⟨S16640x1x256, .f32⟩ : BufTy).Contents (Elt Ideal))⟩, ⟨S16640x1x256, ((broadcastInDim S16640x1x256 ![0, 2] bcast_S16640x256_S16640x1x256_0_2 a3) : (⟨S16640x1x256, .f32⟩ : BufTy).Contents (Elt Ideal))⟩, ⟨S16640x1x256, ((broadcastInDim S16640x1x256 ![0, 2] bcast_S16640x256_S16640x1x256_0_2 a4) : (⟨S16640x1x256, .f32⟩ : BufTy).Contents (Elt Ideal))⟩] concatenates_S16640x1x256_S16640x1x256_S16640x1x256_S16640x1x256_S16640x4x256_d1 : (⟨S16640x4x256, .f32⟩ : BufTy).Contents (Elt Ideal)))) transposes_S4x1024x16640_S16640x4x1024_2_0_1)) a7)

end Cert.Reference3Ideal.Merge

namespace Cert.Kernel3Ideal.Merge

open Cert.Kernel3Ideal Cert.Kernel3Ideal.Gen
open Cert.Reference3Ideal.Merge (REF)

variable (m : (ℓ : Loc nD τ sig) → Buf (Elt Ideal) ℓ)

/-- Which block of its array each window holds at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0, 0] ∧ win0_7.index t = ![0, 0] ∧ win0_8.index t = ![t.val, 0] :=
  (by decide +kernel : ∀ t : Fin grid0.N, _)

/-- The array after the run is the reference's term. -/
theorem final (c : Dev nD) : (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  pointwise [k0_pay1, k0_pay2, k0_pay3, k0_pay4, REF]
  simp only [Fin.sum_univ_four, Ideal.logistic, show ((0 : Fin 4) : ℕ) = 0 from rfl, show ((1 : Fin 4) : ℕ) = 1 from rfl,
    show ((2 : Fin 4) : ℕ) = 2 from rfl, show ((3 : Fin 4) : ℕ) = 3 from rfl, Nat.reduceLT, Nat.reduceSub, Nat.lt_irrefl, Nat.reduceMul, Nat.zero_lt_one,
    zero_mul, one_mul, zero_add, dite_true, dite_false, dif_pos, dif_neg, not_false_eq_true]
  have hc : ∀ (i : S4x256x1024.Idx) (x : EReal), HMul.hMul (α := EReal) (β := EReal) (γ := EReal) (m ((c : Thread nD τ).loc main_arg6) i) x
      = HMul.hMul (α := EReal) (β := EReal) (γ := EReal) x (m ((c : Thread nD τ).loc main_arg6) i) := fun i x => mul_comm _ _
  simp only [hc]
  blk_point [iblk, V, idx t]

end Cert.Kernel3Ideal.Merge

end
-- ==== Proof.MergeClaims.lean ====
/- The claims about the kernel `Kernel3` and its reference. -/
module

public import proofs.«01_k».proof.Defs
public import Idealize.ShloMosaic.Lib.Quiescent
public import proofs.«01_k».proof.Proof.Gen.Kernel3.Frame
public import proofs.«01_k».proof.Proof.Merge

@[expose] public section

noncomputable section

namespace Cert.Proof

open Idealize.ShloMosaic Idealize.ShloMosaic.TcCoe Idealize.SL.Sem

theorem frame_Kernel3 : @Cert.quiescent_Kernel3 Cert.Kernel3.Gen.facts := fun m ρ _ => Cert.Kernel3.Gen.frame m ρ

theorem frame_Kernel3Ideal : @Cert.quiescent_Kernel3Ideal Cert.Kernel3Ideal.Gen.facts := fun m ρ _ => Cert.Kernel3Ideal.Gen.frame m ρ

theorem frame_Reference3Ideal : @Cert.quiescent_Reference3Ideal Cert.Reference3Ideal.Gen.facts := by
  intro m g _
  exact (θ_run _ _ _).mono (fun r h => ⟨fun c => (h c).2, sem_eq_zero_of_no_sems rfl r.2⟩) (Cert.Reference3Ideal.Value.run m g)

theorem algebraic_3 : @Cert.algebraic_Kernel3Ideal_Reference3Ideal Cert.Kernel3Ideal.Gen.facts Cert.Reference3Ideal.Gen.facts := by
  pair_intro
  · run_from Cert.Kernel3Ideal.Gen.run_main m g
  · run_from Cert.Reference3Ideal.Value.run m' g'
    obtain ⟨-, h1, h2, h3, h4, -⟩ := hagree c
    exact (congr (congr (congr (congrArg (fun a b d e => Cert.Reference3Ideal.Merge.REF (m (c.tc.loc Cert.Kernel3Ideal.main_arg0)) a b d e
      (m (c.tc.loc Cert.Kernel3Ideal.main_arg5)) (m (c.tc.loc Cert.Kernel3Ideal.main_arg6)) (m (c.tc.loc Cert.Kernel3Ideal.main_arg7))) h1) h2) h3) h4).trans
      (Cert.Kernel3Ideal.Merge.final m c).symm

end Cert.Proof

end
-- ==== Proof.FinalNorm.lean ====
/- The value of the final normalisation: the array its kernel leaves is the reference's term over the same arguments. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference4Ideal.FinalNorm

open Cert.Reference4Ideal Cert.Reference4Ideal.Gen

/-- The reference's result over its arguments. -/
abbrev REF (a0 : FVec Ideal S16640x1024 .f32) (a1 : FVec Ideal S1024 .f32) : FVec Ideal S16640x1024 .f32 :=
  mulf (mulf a0 (broadcastInDim S16640x1024 ![0, 1] bcast_S16640x1_S16640x1024_0_1 (Host.rsqrt (addf (Host.divf (broadcastInDim S16640x1 ![0] bcast_S16640_S16640x1_0 (Host.reduceAdd (mulf a0 a0) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x358637BD#32)))))) (broadcastInDim S16640x1024 ![0, 1] bcast_S1x1024_S16640x1024_0_1 (broadcastInDim S1x1024 ![1] bcast_S1024_S1x1024_1 a1))

end Cert.Reference4Ideal.FinalNorm

namespace Cert.Kernel4Ideal.FinalNorm

open Cert.Kernel4Ideal Cert.Kernel4Ideal.Gen
open Cert.Reference4Ideal.FinalNorm (REF)

variable (m : (ℓ : Loc nD τ sig) → Buf (Elt Ideal) ℓ)

/-- Which block of its array each window holds at a grid point. -/
theorem idx : ∀ t : Fin cfg0.N, win0_0.index t = ![t.val, 0] ∧ win0_1.index t = ![0, 0] ∧ win0_2.index t = ![t.val, 0] :=
  (by decide +kernel : ∀ t : Fin grid0.N, _)

/-- What a grid point stores at an index of its block is the reference's value at that index's place in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array after the run is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.FinalNorm

end
-- ==== Proof.FinalNormClaims.lean ====
/- The claims about the kernel `Kernel4` and its reference. -/
module

public import proofs.«01_k».proof.Defs
public import Idealize.ShloMosaic.Lib.Quiescent
public import proofs.«01_k».proof.Proof.Gen.Kernel4.Frame
public import proofs.«01_k».proof.Proof.FinalNorm

@[expose] public section

noncomputable section

namespace Cert.Proof

open Idealize.ShloMosaic Idealize.ShloMosaic.TcCoe Idealize.SL.Sem

theorem frame_Kernel4 : @Cert.quiescent_Kernel4 Cert.Kernel4.Gen.facts := fun m ρ _ => Cert.Kernel4.Gen.frame m ρ

theorem frame_Kernel4Ideal : @Cert.quiescent_Kernel4Ideal Cert.Kernel4Ideal.Gen.facts := fun m ρ _ => Cert.Kernel4Ideal.Gen.frame m ρ

theorem frame_Reference4Ideal : @Cert.quiescent_Reference4Ideal Cert.Reference4Ideal.Gen.facts := by
  intro m g _
  exact (θ_run _ _ _).mono (fun r h => ⟨fun c => (h c).2, sem_eq_zero_of_no_sems rfl r.2⟩) (Cert.Reference4Ideal.Value.run m g)

theorem algebraic_4 : @Cert.algebraic_Kernel4Ideal_Reference4Ideal Cert.Kernel4Ideal.Gen.facts Cert.Reference4Ideal.Gen.facts := by
  pair_intro
  · run_from Cert.Kernel4Ideal.Gen.run_main m g
  · run_from Cert.Reference4Ideal.Value.run m' g'
    exact (Cert.Kernel4Ideal.FinalNorm.final m c).symm

end Cert.Proof

end
-- ==== Proof.ScatterSet.lean ====
/- A host scatter that stores one vector at distinct places of an array, read at an index. -/
module

public import Idealize.ShloMosaic.Lib.Pointwise
public import Idealize.ShloMosaic.Lib.Claim

@[expose] public section

namespace Cert.Reads

open Idealize.ShloMosaic

/-- Folding over a list of stores at distinct places: a place outside the list keeps its value, a place on it has the value stored there. -/
theorem foldl_set {ι κ α : Type} [DecidableEq ι] (g : κ → ι) (hinj : Function.Injective g) (v : κ → α) :
    ∀ (l : List κ), l.Nodup → ∀ x : ι → α,
      (∀ i, (∀ n ∈ l, g n ≠ i) → l.foldl (fun r n => fun i' => if i' = g n then v n else r i') x i = x i)
      ∧ (∀ n ∈ l, l.foldl (fun r n => fun i' => if i' = g n then v n else r i') x (g n) = v n) := by
  intro l
  induction l with
  | nil => intro _ x; exact ⟨fun _ _ => rfl, fun n hn => absurd hn (List.not_mem_nil)⟩
  | cons a l ih =>
    intro hl x
    obtain ⟨ha, hl⟩ := List.nodup_cons.mp hl
    obtain ⟨h1, h2⟩ := ih hl (fun i' => if i' = g a then v a else x i')
    refine ⟨fun i hi => ?_, fun n hn => ?_⟩
    · rw [List.foldl_cons, h1 i fun n hn => hi n (List.mem_cons_of_mem _ hn)]
      exact if_neg fun h => hi a List.mem_cons_self h.symm
    · rw [List.foldl_cons]
      rcases List.mem_cons.mp hn with rfl | hn
      · rw [h1 (g n) fun k hk h => ha (hinj h ▸ hk)]
        exact if_pos rfl
      · exact h2 n hn

/-- A scatter that stores, every update at a place of its own: what it leaves at an update's place, and elsewhere. -/
theorem scatter_set {α : Type} {w : ℕ} {s si u : Shape} (d : ScatterDims s si u) (x : s.Idx → α) (idx : IVec si w) (upd : u.Idx → α)
    (g : Fin u.numel → s.Idx) (hinj : Function.Injective g) (hg : ∀ n, d.resultIdx? (u.rowMajor.symm n) idx = some (g n)) :
    (∀ i, (∀ n, g n ≠ i) → Host.scatter d (fun _ b => b) x idx upd i = x i)
    ∧ (∀ n, Host.scatter d (fun _ b => b) x idx upd (g n) = upd (u.rowMajor.symm n)) := by
  have e : Host.scatter d (fun _ b => b) x idx upd
      = (List.finRange u.numel).foldl (fun r n => fun i' => if i' = g n then upd (u.rowMajor.symm n) else r i') x := by
    unfold Host.scatter
    congr 1
    funext r n
    rw [hg n]
  rw [e]
  obtain ⟨h1, h2⟩ := foldl_set g hinj (fun n => upd (u.rowMajor.symm n)) _ (List.nodup_finRange _) x
  exact ⟨fun i hi => h1 i fun n _ => hi n, fun n => h2 n (List.mem_finRange n)⟩

end Cert.Reads

end
-- ==== Proof.ProjRef.lean ====
/- The projection's reference as functions of its arguments. -/
module

public import proofs.«01_k».proof.Proof.Gen.Reference5Ideal
public import Idealize.ShloMosaic.Lib.Pointwise

@[expose] public section

set_option maxRecDepth 16384

noncomputable section

open Idealize.ShloMosaic Idealize.ShloMosaic.TcCoe Idealize.SL.Sem

namespace Cert.Reference5Ideal.Proj

open Cert.Reference5Ideal Cert.Reference5Ideal.Gen

/-- The normalised rows. -/
def r_h (a0 : FVec Ideal S16640x1024 .f32) (a1 : FVec Ideal S1024 .f32) : FVec Ideal S16640x1024 .f32 :=
  mulf (mulf a0 (broadcastInDim S16640x1024 ![0, 1] bcast_S16640x1_S16640x1024_0_1 (Host.rsqrt (addf (Host.divf (broadcastInDim S16640x1 ![0] bcast_S16640_S16640x1_0 (Host.reduceAdd (mulf a0 a0) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x358637BD#32)))))) (broadcastInDim S16640x1024 ![0, 1] bcast_S1x1024_S16640x1024_0_1 (broadcastInDim S1x1024 ![1] bcast_S1024_S1x1024_1 a1))

/-- The projection `z` over its arguments. -/
def r_v13 (a0 : FVec Ideal S16640x1024 .f32) (a1 : FVec Ideal S1024 .f32) (a2 : FVec Ideal S1024x8536 .f32) : FVec Ideal S16640x8536 .f32 :=
  Host.dotGeneral dot_S16640x1024_S1024x8536_S16640x8536_1_0_0_1_n_n none (r_h a0 a1) a2

/-- The reference's array `v18` over its arguments. -/
def r_v18 (a0 : FVec Ideal S16640x1024 .f32) (a1 : FVec Ideal S1024 .f32) (a2 : FVec Ideal S1024x8536 .f32) : FVec Ideal S16640x64 .f32 :=
  extractStridedSlice S16640x64 ![0, 1280] (r_v13 a0 a1 a2) slices_S16640x8536_S16640x64_0_1280

/-- The reference's array `v32` over its arguments. -/
def r_v32 (a0 : FVec Ideal S16640x1024 .f32) (a1 : FVec Ideal S1024 .f32) (a2 : FVec Ideal S1024x8536 .f32) : FVec Ideal S16640x4x64 .f32 :=
  shapeCast _ (extractStridedSlice S16640x256 ![0, 0] (r_v13 a0 a1 a2) slices_S16640x8536_S16640x256_0_0) shapeCasts_S16640x256_S16640x4x64

/-- The reference's array `v44` over its arguments. -/
def r_v44 (a3 : IVec S16640 32) : FVec Ideal S16640x32 .f32 :=
  mulf (broadcastInDim S16640x32 ![0, 1] bcast_S16640x1_S16640x32_0_1 (broadcastInDim S16640x1 ![0] bcast_S16640_S16640x1_0 (sitofp .f32 a3))) (broadcastInDim S16640x32 ![0, 1] bcast_S1x32_S16640x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The reference's array `v46` over its arguments. -/
def r_v46 (a3 : IVec S16640 32) : FVec Ideal S16640x1x32 .f32 :=
  broadcastInDim S16640x1x32 ![0, 2] bcast_S16640x32_S16640x1x32_0_2 (Host.cos (r_v44 a3))

/-- The reference's array `v48` over its arguments. -/
def r_v48 (a3 : IVec S16640 32) : FVec Ideal S16640x1x32 .f32 :=
  broadcastInDim S16640x1x32 ![0, 2] bcast_S16640x32_S16640x1x32_0_2 (Host.sin (r_v44 a3))

/-- The reference's array `v49` over its arguments. -/
def r_v49 (a0 : FVec Ideal S16640x1024 .f32) (a1 : FVec Ideal S1024 .f32) (a2 : FVec Ideal S1024x8536 .f32) : FVec Ideal S16640x4x32 .f32 :=
  extractStridedSlice S16640x4x32 ![0, 0, 0] (r_v32 a0 a1 a2) slices_S16640x4x64_S16640x4x32_0_0_0

/-- The reference's array `v50` over its arguments. -/
def r_v50 (a0 : FVec Ideal S16640x1024 .f32) (a1 : FVec Ideal S1024 .f32) (a2 : FVec Ideal S1024x8536 .f32) : FVec Ideal S16640x4x32 .f32 :=
  extractStridedSlice S16640x4x32 ![0, 0, 32] (r_v32 a0 a1 a2) slices_S16640x4x64_S16640x4x32_0_0_32

/-- The reference's array `v63` over its arguments. -/
def r_v63 (a0 : FVec Ideal S16640x1024 .f32) (a1 : FVec Ideal S1024 .f32) (a2 : FVec Ideal S1024x8536 .f32) : FVec Ideal S16640x4x64 .f32 :=
  shapeCast _ (extractStridedSlice S16640x256 ![0, 256] (r_v13 a0 a1 a2) slices_S16640x8536_S16640x256_0_256) shapeCasts_S16640x256_S16640x4x64

/-- The reference's array `v75` over its arguments. -/
def r_v75 (a3 : IVec S16640 32) : FVec Ideal S16640x32 .f32 :=
  mulf (broadcastInDim S16640x32 ![0, 1] bcast_S16640x1_S16640x32_0_1 (broadcastInDim S16640x1 ![0] bcast_S16640_S16640x1_0 (sitofp .f32 a3))) (broadcastInDim S16640x32 ![0, 1] bcast_S1x32_S16640x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The reference's array `v77` over its arguments. -/
def r_v77 (a3 : IVec S16640 32) : FVec Ideal S16640x1x32 .f32 :=
  broadcastInDim S16640x1x32 ![0, 2] bcast_S16640x32_S16640x1x32_0_2 (Host.cos (r_v75 a3))

/-- The reference's array `v79` over its arguments. -/
def r_v79 (a3 : IVec S16640 32) : FVec Ideal S16640x1x32 .f32 :=
  broadcastInDim S16640x1x32 ![0, 2] bcast_S16640x32_S16640x1x32_0_2 (Host.sin (r_v75 a3))

/-- The reference's array `v80` over its arguments. -/
def r_v80 (a0 : FVec Ideal S16640x1024 .f32) (a1 : FVec Ideal S1024 .f32) (a2 : FVec Ideal S1024x8536 .f32) : FVec Ideal S16640x4x32 .f32 :=
  extractStridedSlice S16640x4x32 ![0, 0, 0] (r_v63 a0 a1 a2) slices_S16640x4x64_S16640x4x32_0_0_0

/-- The reference's array `v81` over its arguments. -/
def r_v81 (a0 : FVec Ideal S16640x1024 .f32) (a1 : FVec Ideal S1024 .f32) (a2 : FVec Ideal S1024x8536 .f32) : FVec Ideal S16640x4x32 .f32 :=
  extractStridedSlice S16640x4x32 ![0, 0, 32] (r_v63 a0 a1 a2) slices_S16640x4x64_S16640x4x32_0_0_32

/-- The reference's array `v94` over its arguments. -/
def r_v94 (a0 : FVec Ideal S16640x1024 .f32) (a1 : FVec Ideal S1024 .f32) (a2 : FVec Ideal S1024x8536 .f32) : FVec Ideal S16640x8x64 .f32 :=
  shapeCast _ (extractStridedSlice S16640x512 ![0, 768] (r_v13 a0 a1 a2) slices_S16640x8536_S16640x512_0_768) shapeCasts_S16640x512_S16640x8x64

/-- The reference's array `v106` over its arguments. -/
def r_v106 (a3 : IVec S16640 32) : FVec Ideal S16640x32 .f32 :=
  mulf (broadcastInDim S16640x32 ![0, 1] bcast_S16640x1_S16640x32_0_1 (broadcastInDim S16640x1 ![0] bcast_S16640_S16640x1_0 (sitofp .f32 a3))) (broadcastInDim S16640x32 ![0, 1] bcast_S1x32_S16640x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The reference's array `v108` over its arguments. -/
def r_v108 (a3 : IVec S16640 32) : FVec Ideal S16640x1x32 .f32 :=
  broadcastInDim S16640x1x32 ![0, 2] bcast_S16640x32_S16640x1x32_0_2 (Host.cos (r_v106 a3))

/-- The reference's array `v110` over its arguments. -/
def r_v110 (a3 : IVec S16640 32) : FVec Ideal S16640x1x32 .f32 :=
  broadcastInDim S16640x1x32 ![0, 2] bcast_S16640x32_S16640x1x32_0_2 (Host.sin (r_v106 a3))

/-- The reference's array `v111` over its arguments. -/
def r_v111 (a0 : FVec Ideal S16640x1024 .f32) (a1 : FVec Ideal S1024 .f32) (a2 : FVec Ideal S1024x8536 .f32) : FVec Ideal S16640x8x32 .f32 :=
  extractStridedSlice S16640x8x32 ![0, 0, 0] (r_v94 a0 a1 a2) slices_S16640x8x64_S16640x8x32_0_0_0

/-- The reference's array `v112` over its arguments. -/
def r_v112 (a0 : FVec Ideal S16640x1024 .f32) (a1 : FVec Ideal S1024 .f32) (a2 : FVec Ideal S1024x8536 .f32) : FVec Ideal S16640x8x32 .f32 :=
  extractStridedSlice S16640x8x32 ![0, 0, 32] (r_v94 a0 a1 a2) slices_S16640x8x64_S16640x8x32_0_0_32

/-- The reference's array `v138` over its arguments. -/
def r_v138 (a0 : FVec Ideal S16640x1024 .f32) (a1 : FVec Ideal S1024 .f32) (a2 : FVec Ideal S1024x8536 .f32) (a4 : FVec Ideal S64 .f32) : FVec Ideal S16640x1x64 .f32 :=
  broadcastInDim S16640x1x64 ![0, 2] bcast_S16640x64_S16640x1x64_0_2 (mulf (mulf (r_v18 a0 a1 a2) (broadcastInDim S16640x64 ![0, 1] bcast_S16640x1_S16640x64_0_1 (Host.rsqrt (addf (Host.divf (broadcastInDim S16640x1 ![0] bcast_S16640_S16640x1_0 (Host.reduceAdd (mulf (r_v18 a0 a1 a2) (r_v18 a0 a1 a2)) (constant S_ .f32 0x00000000#32) reducesTo_S16640x64_S16640_d1 h_S_)) (broadcastInDim S16640x1 ![] bcast_S_S16640x1 (constant S_ .f32 0x42800000#32))) (broadcastInDim S16640x1 ![] bcast_S_S16640x1 (constant S_ .f32 0x358637BD#32)))))) (broadcastInDim S16640x64 ![0, 1] bcast_S1x64_S16640x64_0_1 (broadcastInDim S1x64 ![1] bcast_S64_S1x64_1 a4)))

/-- The reference's array `v150` over its arguments. -/
def r_v150 (a3 : IVec S16640 32) : FVec Ideal S16640x32 .f32 :=
  mulf (broadcastInDim S16640x32 ![0, 1] bcast_S16640x1_S16640x32_0_1 (broadcastInDim S16640x1 ![0] bcast_S16640_S16640x1_0 (sitofp .f32 a3))) (broadcastInDim S16640x32 ![0, 1] bcast_S1x32_S16640x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The reference's array `v152` over its arguments. -/
def r_v152 (a3 : IVec S16640 32) : FVec Ideal S16640x1x32 .f32 :=
  broadcastInDim S16640x1x32 ![0, 2] bcast_S16640x32_S16640x1x32_0_2 (Host.cos (r_v150 a3))

/-- The reference's array `v154` over its arguments. -/
def r_v154 (a3 : IVec S16640 32) : FVec Ideal S16640x1x32 .f32 :=
  broadcastInDim S16640x1x32 ![0, 2] bcast_S16640x32_S16640x1x32_0_2 (Host.sin (r_v150 a3))

/-- The reference's array `v155` over its arguments. -/
def r_v155 (a0 : FVec Ideal S16640x1024 .f32) (a1 : FVec Ideal S1024 .f32) (a2 : FVec Ideal S1024x8536 .f32) (a4 : FVec Ideal S64 .f32) : FVec Ideal S16640x1x32 .f32 :=
  extractStridedSlice S16640x1x32 ![0, 0, 0] (r_v138 a0 a1 a2 a4) slices_S16640x1x64_S16640x1x32_0_0_0

/-- The reference's array `v156` over its arguments. -/
def r_v156 (a0 : FVec Ideal S16640x1024 .f32) (a1 : FVec Ideal S1024 .f32) (a2 : FVec Ideal S1024x8536 .f32) (a4 : FVec Ideal S64 .f32) : FVec Ideal S16640x1x32 .f32 :=
  extractStridedSlice S16640x1x32 ![0, 0, 32] (r_v138 a0 a1 a2 a4) slices_S16640x1x64_S16640x1x32_0_0_32

/-- The reference's array `call0_v0` over its arguments. -/
def r_call0_v0 (a0 : FVec Ideal S16640x1024 .f32) (a1 : FVec Ideal S1024 .f32) (a2 : FVec Ideal S1024x8536 .f32) (a6 : FVec Ideal S4 .f32) : FVec Ideal S16640x4 .f32 :=
  Host.negf (addf (extractStridedSlice S16640x4 ![0, 2124] (r_v13 a0 a1 a2) slices_S16640x8536_S16640x4_0_2124) (broadcastInDim S16640x4 ![0, 1] bcast_S1x4_S16640x4_0_1 (broadcastInDim S1x4 ![1] bcast_S4_S1x4_1 a6)))

/-- The reference's array `call0_call0_cst` over its arguments. -/
def r_call0_call0_cst  : FVec Ideal S_ .f32 :=
  constant S_ .f32 0x00000000#32

/-- The reference's array `call0_call0_v3` over its arguments. -/
def r_call0_call0_v3 (a0 : FVec Ideal S16640x1024 .f32) (a1 : FVec Ideal S1024 .f32) (a2 : FVec Ideal S1024x8536 .f32) (a6 : FVec Ideal S4 .f32) : FVec Ideal S16640x4 .f32 :=
  subf (r_call0_v0 a0 a1 a2 a6) (broadcastInDim S16640x4 ![] bcast_S_S16640x4 r_call0_call0_cst)

/-- The reference's array `v184` over its arguments. -/
def r_v184 (a0 : FVec Ideal S16640x1024 .f32) (a1 : FVec Ideal S1024 .f32) (a2 : FVec Ideal S1024x8536 .f32) (a8 : FVec Ideal S4 .f32) : FVec Ideal S16640x4 .f32 :=
  addf (extractStridedSlice S16640x4 ![0, 4180] (r_v13 a0 a1 a2) slices_S16640x8536_S16640x4_0_4180) (broadcastInDim S16640x4 ![0, 1] bcast_S1x4_S16640x4_0_1 (broadcastInDim S1x4 ![1] bcast_S4_S1x4_1 a8))

/-- The reference's array `call1_cst` over its arguments. -/
def r_call1_cst  : FVec Ideal S_ .f32 :=
  constant S_ .f32 0x00000000#32

/-- The reference's array `call1_v3` over its arguments. -/
def r_call1_v3 (a0 : FVec Ideal S16640x1024 .f32) (a1 : FVec Ideal S1024 .f32) (a2 : FVec Ideal S1024x8536 .f32) (a8 : FVec Ideal S4 .f32) : FVec Ideal S16640x4 .f32 :=
  subf (r_v184 a0 a1 a2 a8) (broadcastInDim S16640x4 ![] bcast_S_S16640x4 r_call1_cst)

/-- The last columns, which hold nothing. -/
def r_zeros : FVec Ideal S16640x40 .f32 :=
  broadcastInDim S16640x40 ![] bcast_S_S16640x40 (constant S_ .f32 0x00000000#32)

/-- The reference's result `v191` over its arguments. -/
def out_v191 (a0 : FVec Ideal S16640x1024 .f32) (a1 : FVec Ideal S1024 .f32) (a2 : FVec Ideal S1024x8536 .f32) (a3 : IVec S16640 32) : FVec Ideal S16640x768 .f32 :=
  (concatenate S16640x768 1 [⟨S16640x256, ((shapeCast _ (concatenate S16640x4x64 2 [⟨S16640x4x32, (subf (mulf (r_v49 a0 a1 a2) (broadcastInDim S16640x4x32 ![0, 1, 2] bcast_S16640x1x32_S16640x4x32_0_1_2 (r_v46 a3))) (mulf (r_v50 a0 a1 a2) (broadcastInDim S16640x4x32 ![0, 1, 2] bcast_S16640x1x32_S16640x4x32_0_1_2 (r_v48 a3))))⟩, ⟨S16640x4x32, (addf (mulf (r_v50 a0 a1 a2) (broadcastInDim S16640x4x32 ![0, 1, 2] bcast_S16640x1x32_S16640x4x32_0_1_2 (r_v46 a3))) (mulf (r_v49 a0 a1 a2) (broadcastInDim S16640x4x32 ![0, 1, 2] bcast_S16640x1x32_S16640x4x32_0_1_2 (r_v48 a3))))⟩] concatenates_S16640x4x32_S16640x4x32_S16640x4x64_d2) shapeCasts_S16640x4x64_S16640x256) : (⟨S16640x256, .f32⟩ : BufTy).Contents (Elt Ideal))⟩, ⟨S16640x256, ((shapeCast _ (concatenate S16640x4x64 2 [⟨S16640x4x32, (subf (mulf (r_v80 a0 a1 a2) (broadcastInDim S16640x4x32 ![0, 1, 2] bcast_S16640x1x32_S16640x4x32_0_1_2 (r_v77 a3))) (mulf (r_v81 a0 a1 a2) (broadcastInDim S16640x4x32 ![0, 1, 2] bcast_S16640x1x32_S16640x4x32_0_1_2 (r_v79 a3))))⟩, ⟨S16640x4x32, (addf (mulf (r_v81 a0 a1 a2) (broadcastInDim S16640x4x32 ![0, 1, 2] bcast_S16640x1x32_S16640x4x32_0_1_2 (r_v77 a3))) (mulf (r_v80 a0 a1 a2) (broadcastInDim S16640x4x32 ![0, 1, 2] bcast_S16640x1x32_S16640x4x32_0_1_2 (r_v79 a3))))⟩] concatenates_S16640x4x32_S16640x4x32_S16640x4x64_d2) shapeCasts_S16640x4x64_S16640x256) : (⟨S16640x256, .f32⟩ : BufTy).Contents (Elt Ideal))⟩, ⟨S16640x256, ((extractStridedSlice S16640x256 ![0, 512] (r_v13 a0 a1 a2) slices_S16640x8536_S16640x256_0_512) : (⟨S16640x256, .f32⟩ : BufTy).Contents (Elt Ideal))⟩] concatenates_S16640x256_S16640x256_S16640x256_S16640x768_d1 : (⟨S16640x768, .f32⟩ : BufTy).Contents (Elt Ideal))

/-- The reference's result `v124` over its arguments. -/
def out_v124 (a0 : FVec Ideal S16640x1024 .f32) (a1 : FVec Ideal S1024 .f32) (a2 : FVec Ideal S1024x8536 .f32) (a3 : IVec S16640 32) : FVec Ideal S16640x512 .f32 :=
  shapeCast _ (concatenate S16640x8x64 2 [⟨S16640x8x32, (subf (mulf (r_v111 a0 a1 a2) (broadcastInDim S16640x8x32 ![0, 1, 2] bcast_S16640x1x32_S16640x8x32_0_1_2 (r_v108 a3))) (mulf (r_v112 a0 a1 a2) (broadcastInDim S16640x8x32 ![0, 1, 2] bcast_S16640x1x32_S16640x8x32_0_1_2 (r_v110 a3))))⟩, ⟨S16640x8x32, (addf (mulf (r_v112 a0 a1 a2) (broadcastInDim S16640x8x32 ![0, 1, 2] bcast_S16640x1x32_S16640x8x32_0_1_2 (r_v108 a3))) (mulf (r_v111 a0 a1 a2) (broadcastInDim S16640x8x32 ![0, 1, 2] bcast_S16640x1x32_S16640x8x32_0_1_2 (r_v110 a3))))⟩] concatenates_S16640x8x32_S16640x8x32_S16640x8x64_d2) shapeCasts_S16640x8x64_S16640x512

/-- The reference's result `v190` over its arguments. -/
def out_v190 (a0 : FVec Ideal S16640x1024 .f32) (a1 : FVec Ideal S1024 .f32) (a2 : FVec Ideal S1024x8536 .f32) (a3 : IVec S16640 32) (a4 : FVec Ideal S64 .f32) (a5 : FVec Ideal S4 .f32) (a6 : FVec Ideal S4 .f32) (a7 : FVec Ideal S4 .f32) (a8 : FVec Ideal S4 .f32) : FVec Ideal S16640x128 .f32 :=
  (concatenate S16640x128 1 [⟨S16640x64, ((shapeCast _ (concatenate S16640x1x64 2 [⟨S16640x1x32, (subf (mulf (r_v155 a0 a1 a2 a4) (r_v152 a3)) (mulf (r_v156 a0 a1 a2 a4) (r_v154 a3)))⟩, ⟨S16640x1x32, (addf (mulf (r_v156 a0 a1 a2 a4) (r_v152 a3)) (mulf (r_v155 a0 a1 a2 a4) (r_v154 a3)))⟩] concatenates_S16640x1x32_S16640x1x32_S16640x1x64_d2) shapeCasts_S16640x1x64_S16640x64) : (⟨S16640x64, .f32⟩ : BufTy).Contents (Elt Ideal))⟩, ⟨S16640x8, ((mulf (extractStridedSlice S16640x8 ![0, 1344] (r_v13 a0 a1 a2) slices_S16640x8536_S16640x8_0_1344) (broadcastInDim S16640x8 ![] bcast_S_S16640x8 (constant S_ .f32 0x3EB504F3#32))) : (⟨S16640x8, .f32⟩ : BufTy).Contents (Elt Ideal))⟩, ⟨S16640x4, ((addf (extractStridedSlice S16640x4 ![0, 2120] (r_v13 a0 a1 a2) slices_S16640x8536_S16640x4_0_2120) (broadcastInDim S16640x4 ![0, 1] bcast_S1x4_S16640x4_0_1 (broadcastInDim S1x4 ![1] bcast_S4_S1x4_1 a5))) : (⟨S16640x4, .f32⟩ : BufTy).Contents (Elt Ideal))⟩, ⟨S16640x4, ((Host.negf (select (cmpf .une (r_call0_call0_v3 a0 a1 a2 a6) (r_call0_call0_v3 a0 a1 a2 a6)) (addf (r_call0_v0 a0 a1 a2 a6) (broadcastInDim S16640x4 ![] bcast_S_S16640x4 r_call0_call0_cst)) (addf (maximumf (r_call0_v0 a0 a1 a2 a6) (broadcastInDim S16640x4 ![] bcast_S_S16640x4 r_call0_call0_cst)) (Host.log1p (Host.exp (Host.negf (Host.absf (r_call0_call0_v3 a0 a1 a2 a6)))))))) : (⟨S16640x4, .f32⟩ : BufTy).Contents (Elt Ideal))⟩, ⟨S16640x4, ((Host.divf (broadcastInDim S16640x4 ![] bcast_S_S16640x4 (constant S_ .f32 0x3F800000#32)) (addf (broadcastInDim S16640x4 ![] bcast_S_S16640x4 (constant S_ .f32 0x3F800000#32)) (Host.exp (Host.negf (extractStridedSlice S16640x4 ![0, 4176] (r_v13 a0 a1 a2) slices_S16640x8536_S16640x4_0_4176))))) : (⟨S16640x4, .f32⟩ : BufTy).Contents (Elt Ideal))⟩, ⟨S16640x4, ((mulf (broadcastInDim S16640x4 ![0, 1] bcast_S1x4_S16640x4_0_1 (broadcastInDim S1x4 ![1] bcast_S4_S1x4_1 (Host.negf (Host.exp a7)))) (select (cmpf .une (r_call1_v3 a0 a1 a2 a8) (r_call1_v3 a0 a1 a2 a8)) (addf (r_v184 a0 a1 a2 a8) (broadcastInDim S16640x4 ![] bcast_S_S16640x4 r_call1_cst)) (addf (maximumf (r_v184 a0 a1 a2 a8) (broadcastInDim S16640x4 ![] bcast_S_S16640x4 r_call1_cst)) (Host.log1p (Host.exp (Host.negf (Host.absf (r_call1_v3 a0 a1 a2 a8)))))))) : (⟨S16640x4, .f32⟩ : BufTy).Contents (Elt Ideal))⟩, ⟨S16640x40, (r_zeros : (⟨S16640x40, .f32⟩ : BufTy).Contents (Elt Ideal))⟩] concatenates_S16640x64_S16640x8_S16640x4_S16640x4_S16640x4_S16640x4_S16640x40_S16640x128_d1 : (⟨S16640x128, .f32⟩ : BufTy).Contents (Elt Ideal))

/-- The reference's result `v192` over its arguments. -/
def out_v192 (a0 : FVec Ideal S16640x1024 .f32) (a1 : FVec Ideal S1024 .f32) (a2 : FVec Ideal S1024x8536 .f32) : FVec Ideal S16640x1024 .f32 :=
  (concatenate S16640x1024 1 [⟨S16640x256, ((extractStridedSlice S16640x256 ![0, 1352] (r_v13 a0 a1 a2) slices_S16640x8536_S16640x256_0_1352) : (⟨S16640x256, .f32⟩ : BufTy).Contents (Elt Ideal))⟩, ⟨S16640x256, ((extractStridedSlice S16640x256 ![0, 1608] (r_v13 a0 a1 a2) slices_S16640x8536_S16640x256_0_1608) : (⟨S16640x256, .f32⟩ : BufTy).Contents (Elt Ideal))⟩, ⟨S16640x256, ((extractStridedSlice S16640x256 ![0, 1864] (r_v13 a0 a1 a2) slices_S16640x8536_S16640x256_0_1864) : (⟨S16640x256, .f32⟩ : BufTy).Contents (Elt Ideal))⟩, ⟨S16640x256, ((extractStridedSlice S16640x256 ![0, 2128] (r_v13 a0 a1 a2) slices_S16640x8536_S16640x256_0_2128) : (⟨S16640x256, .f32⟩ : BufTy).Contents (Elt Ideal))⟩] concatenates_S16640x256_S16640x256_S16640x256_S16640x256_S16640x1024_d1 : (⟨S16640x1024, .f32⟩ : BufTy).Contents (Elt Ideal))

/-- The reference's result `v26` over its arguments. -/
def out_v26 (a0 : FVec Ideal S16640x1024 .f32) (a1 : FVec Ideal S1024 .f32) (a2 : FVec Ideal S1024x8536 .f32) : FVec Ideal S16640x1024 .f32 :=
  extractStridedSlice S16640x1024 ![0, 2384] (r_v13 a0 a1 a2) slices_S16640x8536_S16640x1024_0_2384

/-- The reference's result `v193` over its arguments. -/
def out_v193 (a0 : FVec Ideal S16640x1024 .f32) (a1 : FVec Ideal S1024 .f32) (a2 : FVec Ideal S1024x8536 .f32) : FVec Ideal S16640x1024 .f32 :=
  concatenate S16640x1024 1 [⟨S16640x768, (extractStridedSlice S16640x768 ![0, 3408] (r_v13 a0 a1 a2) slices_S16640x8536_S16640x768_0_3408)⟩, ⟨S16640x256, (extractStridedSlice S16640x256 ![0, 4184] (r_v13 a0 a1 a2) slices_S16640x8536_S16640x256_0_4184)⟩] concatenates_S16640x768_S16640x256_S16640x1024_d1

/-- The reference's result `v31` over its arguments. -/
def out_v31 (a0 : FVec Ideal S16640x1024 .f32) (a1 : FVec Ideal S1024 .f32) (a2 : FVec Ideal S1024x8536 .f32) : FVec Ideal S16640x4096 .f32 :=
  extractStridedSlice S16640x4096 ![0, 4440] (r_v13 a0 a1 a2) slices_S16640x8536_S16640x4096_0_4440

end Cert.Reference5Ideal.Proj

end
-- ==== Proof.ProjHost.lean ====
/- What the projection's host lines leave in the arrays its kernel reads. -/
module

public import proofs.«01_k».proof.Proof.Gen.Kernel5Ideal.Frame
public import proofs.«01_k».proof.Proof.ScatterSet
public import proofs.«01_k».proof.Proof.ProjRef
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj (r_h r_v13 r_v44)

variable (m : (ℓ : Loc nD τ sig) → Buf (Elt Ideal) ℓ)

/-- Which block of its array each window holds at a grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- Row `r` of block `t` in the whole array. -/
abbrev row (t : Fin cfg0.N) (r : Fin 256) : Fin 16640 := ⟨256 * t.val + r.val, by have : t.val < 65 := t.isLt; omega⟩

/-- The angle of a row at one of the 32 frequencies. -/
theorem ang_at (x : IVec Cert.Reference5Ideal.S16640 32) (r : Fin 16640) (i : Fin 32) :
    r_v44 x (ix2 r i) = FloatOps.sitofp (F := Ideal) FTy.f32 (x (ix1 r)) * Ideal.pow (Ideal.ofBits FTy.f32 1176256512#32)
      (Ideal.div (-FloatOps.sitofp (F := Ideal) FTy.f32 (BitVec.ofNat 32 i.val)) (Ideal.ofBits FTy.f32 1107296256#32)) := by
  pointwise [r_v44]

/-- The cosine table repeats its 32 columns. -/
theorem cos_at (c : Dev nD) (r : Fin 16640) (j : Fin 128) :
    V m c main_v15 (ix2 r j) = Ideal.cos (r_v44 (m ((c : Thread nD τ).loc main_arg3)) (ix2 r ⟨j.val % 32, by omega⟩)) := by
  after_reads_simp
  pointwise
  after_reads_simp
  pointwise
  rw [ang_at]
  split_ifs
  · simp only [show j.val % 32 = j.val by omega]
  · simp only [show j.val % 32 = j.val - 32 by omega]
  · simp only [show j.val % 32 = j.val - 32 - 32 by omega]
  · simp only [show j.val % 32 = j.val - 32 - 32 - 32 by omega]

/-- The first sine table: minus the sine in the first half of a head, nothing in the second. -/
theorem sa_at (c : Dev nD) (r : Fin 16640) (j : Fin 128) :
    V m c main_v17 (ix2 r j) = if j.val % 64 < 32 then -Ideal.sin (r_v44 (m ((c : Thread nD τ).loc main_arg3)) (ix2 r ⟨j.val % 32, by omega⟩)) else (0 : EReal) := by
  after_reads_simp
  pointwise
  after_reads_simp
  pointwise
  rw [ang_at]
  split_ifs
  all_goals first | omega | rfl | simp only [show j.val % 32 = j.val by omega] | simp only [show j.val % 32 = j.val - 32 by omega] | simp only [show j.val % 32 = j.val - 32 - 32 by omega] | simp only [show j.val % 32 = j.val - 32 - 32 - 32 by omega]

/-- The second sine table: nothing in the first half of a head, the sine in the second. -/
theorem sb_at (c : Dev nD) (r : Fin 16640) (j : Fin 128) :
    V m c main_v18 (ix2 r j) = if j.val % 64 < 32 then (0 : EReal) else Ideal.sin (r_v44 (m ((c : Thread nD τ).loc main_arg3)) (ix2 r ⟨j.val % 32, by omega⟩)) := by
  after_reads_simp
  pointwise
  after_reads_simp
  pointwise
  rw [ang_at]
  split_ifs
  all_goals first | omega | rfl | simp only [show j.val % 32 = j.val by omega] | simp only [show j.val % 32 = j.val - 32 by omega] | simp only [show j.val % 32 = j.val - 32 - 32 by omega] | simp only [show j.val % 32 = j.val - 32 - 32 - 32 by omega]

set_option maxHeartbeats 4000000 in
/-- The normalised rows of a block are those of the whole array. -/
theorem h_at (c : Dev nD) (t : Fin cfg0.N) (r : Fin 256) (k : Fin 1024) :
    k0_pay4 (iblk m c 0 t) (iblk m c 1 t) (ix2 r k)
      = r_h (m ((c : Thread nD τ).loc main_arg0)) (m ((c : Thread nD τ).loc main_arg1)) (ix2 (row t r) k) := by
  pointwise [k0_pay4, r_h]
  blk_point [iblk, V, idx t]

set_option maxHeartbeats 4000000 in
/-- The weight window is the whole padded weight. -/
theorem w_at (c : Dev nD) (t : Fin cfg0.N) (k : Fin 1024) (j : Fin 8576) :
    iblk m c 2 t (ix2 k j) = V m c main_v40 (ix2 k j) := by
  blk_ext [iblk, idx t]

end Cert.Kernel5Ideal.Proj

end
-- ==== Proof.ProjWeight.lean ====
/- What the projection's host lines leave in the padded weight. -/
module

public import proofs.«01_k».proof.Proof.Gen.Kernel5Ideal.Frame
public import proofs.«01_k».proof.Proof.ProjHost
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen

variable (m : (ℓ : Loc nD τ sig) → Buf (Elt Ideal) ℓ)

variable (c : Dev nD) (k : Fin 1024)

/-- The pieces of the padded weight, one after the other. -/
theorem wcat_at (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = if h0 : j.val < 256 then x0 (ix2 k ⟨j.val, by omega⟩)
      else if h1 : j.val - 256 < 256 then x1 (ix2 k ⟨j.val - 256, by omega⟩)
      else if h2 : j.val - 256 - 256 < 256 then x2 (ix2 k ⟨j.val - 256 - 256, by omega⟩)
      else if h3 : j.val - 256 - 256 - 256 < 512 then x3 (ix2 k ⟨j.val - 256 - 256 - 256, by omega⟩)
      else if h4 : j.val - 256 - 256 - 256 - 512 < 128 then x4 (ix2 k ⟨j.val - 256 - 256 - 256 - 512, by omega⟩)
      else if h5 : j.val - 256 - 256 - 256 - 512 - 128 < 256 then x5 (ix2 k ⟨j.val - 256 - 256 - 256 - 512 - 128, by omega⟩)
      else if h6 : j.val - 256 - 256 - 256 - 512 - 128 - 256 < 256 then x6 (ix2 k ⟨j.val - 256 - 256 - 256 - 512 - 128 - 256, by omega⟩)
      else if h7 : j.val - 256 - 256 - 256 - 512 - 128 - 256 - 256 < 256 then x7 (ix2 k ⟨j.val - 256 - 256 - 256 - 512 - 128 - 256 - 256, by omega⟩)
      else if h8 : j.val - 256 - 256 - 256 - 512 - 128 - 256 - 256 - 256 < 256 then x8 (ix2 k ⟨j.val - 256 - 256 - 256 - 512 - 128 - 256 - 256 - 256, by omega⟩)
      else if h9 : j.val - 256 - 256 - 256 - 512 - 128 - 256 - 256 - 256 - 256 < 1024 then x9 (ix2 k ⟨j.val - 256 - 256 - 256 - 512 - 128 - 256 - 256 - 256 - 256, by omega⟩)
      else if h10 : j.val - 256 - 256 - 256 - 512 - 128 - 256 - 256 - 256 - 256 - 1024 < 768 then x10 (ix2 k ⟨j.val - 256 - 256 - 256 - 512 - 128 - 256 - 256 - 256 - 256 - 1024, by omega⟩)
      else if h11 : j.val - 256 - 256 - 256 - 512 - 128 - 256 - 256 - 256 - 256 - 1024 - 768 < 256 then x11 (ix2 k ⟨j.val - 256 - 256 - 256 - 512 - 128 - 256 - 256 - 256 - 256 - 1024 - 768, by omega⟩)
      else x12 (ix2 k ⟨j.val - 256 - 256 - 256 - 512 - 128 - 256 - 256 - 256 - 256 - 1024 - 768 - 256, by omega⟩) := by
  pointwise

/-- The pieces of the padded weight's narrow piece, one after the other. -/
theorem scat_at (x0 : FVec Ideal S1024x64 .f32) (x1 : FVec Ideal S1024x8 .f32) (x2 : FVec Ideal S1024x4 .f32) (x3 : FVec Ideal S1024x4 .f32) (x4 : FVec Ideal S1024x4 .f32) (x5 : FVec Ideal S1024x4 .f32) (x6 : FVec Ideal S1024x40 .f32) (j : Fin 128) :
    concatenate S1024x128 1 [⟨S1024x64, x0⟩, ⟨S1024x8, x1⟩, ⟨S1024x4, x2⟩, ⟨S1024x4, x3⟩, ⟨S1024x4, x4⟩, ⟨S1024x4, x5⟩, ⟨S1024x40, x6⟩] concatenates_S1024x64_S1024x8_S1024x4_S1024x4_S1024x4_S1024x4_S1024x40_S1024x128_d1 (ix2 k j) = if h0 : j.val < 64 then x0 (ix2 k ⟨j.val, by omega⟩)
      else if h1 : j.val - 64 < 8 then x1 (ix2 k ⟨j.val - 64, by omega⟩)
      else if h2 : j.val - 64 - 8 < 4 then x2 (ix2 k ⟨j.val - 64 - 8, by omega⟩)
      else if h3 : j.val - 64 - 8 - 4 < 4 then x3 (ix2 k ⟨j.val - 64 - 8 - 4, by omega⟩)
      else if h4 : j.val - 64 - 8 - 4 - 4 < 4 then x4 (ix2 k ⟨j.val - 64 - 8 - 4 - 4, by omega⟩)
      else if h5 : j.val - 64 - 8 - 4 - 4 - 4 < 4 then x5 (ix2 k ⟨j.val - 64 - 8 - 4 - 4 - 4, by omega⟩)
      else x6 (ix2 k ⟨j.val - 64 - 8 - 4 - 4 - 4 - 4, by omega⟩) := by
  pointwise

theorem wcat_0 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 0 ≤ j.val) (h' : j.val < 256) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x0 (ix2 k ⟨j.val - 0, by omega⟩) := by
  rw [wcat_at, dif_pos (by omega)]
  first | done | exact congrArg x0 (congrArg (ix2 k) (Fin.ext (by first | omega | (dsimp only; omega))))

theorem wcat_1 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 256 ≤ j.val) (h' : j.val < 512) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x1 (ix2 k ⟨j.val - 256, by omega⟩) := by
  rw [wcat_at, dif_neg (by omega), dif_pos (by omega)]
  first | done | exact congrArg x1 (congrArg (ix2 k) (Fin.ext (by first | omega | (dsimp only; omega))))

theorem wcat_2 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 512 ≤ j.val) (h' : j.val < 768) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x2 (ix2 k ⟨j.val - 512, by omega⟩) := by
  rw [wcat_at, dif_neg (by omega), dif_neg (by omega), dif_pos (by omega)]
  first | done | exact congrArg x2 (congrArg (ix2 k) (Fin.ext (by first | omega | (dsimp only; omega))))

theorem wcat_3 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 768 ≤ j.val) (h' : j.val < 1280) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x3 (ix2 k ⟨j.val - 768, by omega⟩) := by
  rw [wcat_at, dif_neg (by omega), dif_neg (by omega), dif_neg (by omega), dif_pos (by omega)]
  first | done | exact congrArg x3 (congrArg (ix2 k) (Fin.ext (by first | omega | (dsimp only; omega))))

theorem wcat_4 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 1280 ≤ j.val) (h' : j.val < 1408) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x4 (ix2 k ⟨j.val - 1280, by omega⟩) := by
  rw [wcat_at, dif_neg (by omega), dif_neg (by omega), dif_neg (by omega), dif_neg (by omega), dif_pos (by omega)]
  first | done | exact congrArg x4 (congrArg (ix2 k) (Fin.ext (by first | omega | (dsimp only; omega))))

theorem wcat_5 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 1408 ≤ j.val) (h' : j.val < 1664) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x5 (ix2 k ⟨j.val - 1408, by omega⟩) := by
  rw [wcat_at, dif_neg (by omega), dif_neg (by omega), dif_neg (by omega), dif_neg (by omega), dif_neg (by omega), dif_pos (by omega)]
  first | done | exact congrArg x5 (congrArg (ix2 k) (Fin.ext (by first | omega | (dsimp only; omega))))

theorem wcat_6 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 1664 ≤ j.val) (h' : j.val < 1920) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x6 (ix2 k ⟨j.val - 1664, by omega⟩) := by
  rw [wcat_at, dif_neg (by omega), dif_neg (by omega), dif_neg (by omega), dif_neg (by omega), dif_neg (by omega), dif_neg (by omega), dif_pos (by omega)]
  first | done | exact congrArg x6 (congrArg (ix2 k) (Fin.ext (by first | omega | (dsimp only; omega))))

theorem wcat_7 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 1920 ≤ j.val) (h' : j.val < 2176) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x7 (ix2 k ⟨j.val - 1920, by omega⟩) := by
  rw [wcat_at, dif_neg (by omega), dif_neg (by omega), dif_neg (by omega), dif_neg (by omega), dif_neg (by omega), dif_neg (by omega), dif_neg (by omega), dif_pos (by omega)]
  first | done | exact congrArg x7 (congrArg (ix2 k) (Fin.ext (by first | omega | (dsimp only; omega))))

theorem wcat_8 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 2176 ≤ j.val) (h' : j.val < 2432) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x8 (ix2 k ⟨j.val - 2176, by omega⟩) := by
  rw [wcat_at, dif_neg (by omega), dif_neg (by omega), dif_neg (by omega), dif_neg (by omega), dif_neg (by omega), dif_neg (by omega), dif_neg (by omega), dif_neg (by omega), dif_pos (by omega)]
  first | done | exact congrArg x8 (congrArg (ix2 k) (Fin.ext (by first | omega | (dsimp only; omega))))

theorem wcat_9 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 2432 ≤ j.val) (h' : j.val < 3456) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x9 (ix2 k ⟨j.val - 2432, by omega⟩) := by
  rw [wcat_at, dif_neg (by omega), dif_neg (by omega), dif_neg (by omega), dif_neg (by omega), dif_neg (by omega), dif_neg (by omega), dif_neg (by omega), dif_neg (by omega), dif_neg (by omega), dif_pos (by omega)]
  first | done | exact congrArg x9 (congrArg (ix2 k) (Fin.ext (by first | omega | (dsimp only; omega))))

theorem wcat_10 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 3456 ≤ j.val) (h' : j.val < 4224) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x10 (ix2 k ⟨j.val - 3456, by omega⟩) := by
  rw [wcat_at, dif_neg (by omega), dif_neg (by omega), dif_neg (by omega), dif_neg (by omega), dif_neg (by omega), dif_neg (by omega), dif_neg (by omega), dif_neg (by omega), dif_neg (by omega), dif_neg (by omega), dif_pos (by omega)]
  first | done | exact congrArg x10 (congrArg (ix2 k) (Fin.ext (by first | omega | (dsimp only; omega))))

theorem wcat_11 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 4224 ≤ j.val) (h' : j.val < 4480) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x11 (ix2 k ⟨j.val - 4224, by omega⟩) := by
  rw [wcat_at, dif_neg (by omega), dif_neg (by omega), dif_neg (by omega), dif_neg (by omega), dif_neg (by omega), dif_neg (by omega), dif_neg (by omega), dif_neg (by omega), dif_neg (by omega), dif_neg (by omega), dif_neg (by omega), dif_pos (by omega)]
  first | done | exact congrArg x11 (congrArg (ix2 k) (Fin.ext (by first | omega | (dsimp only; omega))))

theorem wcat_12 (x0 : FVec Ideal S1024x256 .f32) (x1 : FVec Ideal S1024x256 .f32) (x2 : FVec Ideal S1024x256 .f32) (x3 : FVec Ideal S1024x512 .f32) (x4 : FVec Ideal S1024x128 .f32) (x5 : FVec Ideal S1024x256 .f32) (x6 : FVec Ideal S1024x256 .f32) (x7 : FVec Ideal S1024x256 .f32) (x8 : FVec Ideal S1024x256 .f32) (x9 : FVec Ideal S1024x1024 .f32) (x10 : FVec Ideal S1024x768 .f32) (x11 : FVec Ideal S1024x256 .f32) (x12 : FVec Ideal S1024x4096 .f32) (j : Fin 8576) (h : 4480 ≤ j.val) (h' : j.val < 8576) :
    truncf .bf16 (concatenate S1024x8576 1 [⟨S1024x256, x0⟩, ⟨S1024x256, x1⟩, ⟨S1024x256, x2⟩, ⟨S1024x512, x3⟩, ⟨S1024x128, x4⟩, ⟨S1024x256, x5⟩, ⟨S1024x256, x6⟩, ⟨S1024x256, x7⟩, ⟨S1024x256, x8⟩, ⟨S1024x1024, x9⟩, ⟨S1024x768, x10⟩, ⟨S1024x256, x11⟩, ⟨S1024x4096, x12⟩] concatenates_S1024x256_S1024x256_S1024x256_S1024x512_S1024x128_S1024x256_S1024x256_S1024x256_S1024x256_S1024x1024_S1024x768_S1024x256_S1024x4096_S1024x8576_d1) bitsLt_bf16_f32 (ix2 k j) = x12 (ix2 k ⟨j.val - 4480, by omega⟩) := by
  rw [wcat_at, dif_neg (by omega), dif_neg (by omega), dif_neg (by omega), dif_neg (by omega), dif_neg (by omega), dif_neg (by omega), dif_neg (by omega), dif_neg (by omega), dif_neg (by omega), dif_neg (by omega), dif_neg (by omega), dif_neg (by omega)]
  first | done | exact congrArg x12 (congrArg (ix2 k) (Fin.ext (by first | omega | (dsimp only; omega))))

theorem scat_0 (x0 : FVec Ideal S1024x64 .f32) (x1 : FVec Ideal S1024x8 .f32) (x2 : FVec Ideal S1024x4 .f32) (x3 : FVec Ideal S1024x4 .f32) (x4 : FVec Ideal S1024x4 .f32) (x5 : FVec Ideal S1024x4 .f32) (x6 : FVec Ideal S1024x40 .f32) (j : Fin 128) (h : 0 ≤ j.val) (h' : j.val < 64) :
    concatenate S1024x128 1 [⟨S1024x64, x0⟩, ⟨S1024x8, x1⟩, ⟨S1024x4, x2⟩, ⟨S1024x4, x3⟩, ⟨S1024x4, x4⟩, ⟨S1024x4, x5⟩, ⟨S1024x40, x6⟩] concatenates_S1024x64_S1024x8_S1024x4_S1024x4_S1024x4_S1024x4_S1024x40_S1024x128_d1 (ix2 k j) = x0 (ix2 k ⟨j.val - 0, by omega⟩) := by
  rw [scat_at, dif_pos (by omega)]
  first | done | exact congrArg x0 (congrArg (ix2 k) (Fin.ext (by first | omega | (dsimp only; omega))))

theorem scat_1 (x0 : FVec Ideal S1024x64 .f32) (x1 : FVec Ideal S1024x8 .f32) (x2 : FVec Ideal S1024x4 .f32) (x3 : FVec Ideal S1024x4 .f32) (x4 : FVec Ideal S1024x4 .f32) (x5 : FVec Ideal S1024x4 .f32) (x6 : FVec Ideal S1024x40 .f32) (j : Fin 128) (h : 64 ≤ j.val) (h' : j.val < 72) :
    concatenate S1024x128 1 [⟨S1024x64, x0⟩, ⟨S1024x8, x1⟩, ⟨S1024x4, x2⟩, ⟨S1024x4, x3⟩, ⟨S1024x4, x4⟩, ⟨S1024x4, x5⟩, ⟨S1024x40, x6⟩] concatenates_S1024x64_S1024x8_S1024x4_S1024x4_S1024x4_S1024x4_S1024x40_S1024x128_d1 (ix2 k j) = x1 (ix2 k ⟨j.val - 64, by omega⟩) := by
  rw [scat_at, dif_neg (by omega), dif_pos (by omega)]
  first | done | exact congrArg x1 (congrArg (ix2 k) (Fin.ext (by first | omega | (dsimp only; omega))))

theorem scat_2 (x0 : FVec Ideal S1024x64 .f32) (x1 : FVec Ideal S1024x8 .f32) (x2 : FVec Ideal S1024x4 .f32) (x3 : FVec Ideal S1024x4 .f32) (x4 : FVec Ideal S1024x4 .f32) (x5 : FVec Ideal S1024x4 .f32) (x6 : FVec Ideal S1024x40 .f32) (j : Fin 128) (h : 72 ≤ j.val) (h' : j.val < 76) :
    concatenate S1024x128 1 [⟨S1024x64, x0⟩, ⟨S1024x8, x1⟩, ⟨S1024x4, x2⟩, ⟨S1024x4, x3⟩, ⟨S1024x4, x4⟩, ⟨S1024x4, x5⟩, ⟨S1024x40, x6⟩] concatenates_S1024x64_S1024x8_S1024x4_S1024x4_S1024x4_S1024x4_S1024x40_S1024x128_d1 (ix2 k j) = x2 (ix2 k ⟨j.val - 72, by omega⟩) := by
  rw [scat_at, dif_neg (by omega), dif_neg (by omega), dif_pos (by omega)]
  first | done | exact congrArg x2 (congrArg (ix2 k) (Fin.ext (by first | omega | (dsimp only; omega))))

theorem scat_3 (x0 : FVec Ideal S1024x64 .f32) (x1 : FVec Ideal S1024x8 .f32) (x2 : FVec Ideal S1024x4 .f32) (x3 : FVec Ideal S1024x4 .f32) (x4 : FVec Ideal S1024x4 .f32) (x5 : FVec Ideal S1024x4 .f32) (x6 : FVec Ideal S1024x40 .f32) (j : Fin 128) (h : 76 ≤ j.val) (h' : j.val < 80) :
    concatenate S1024x128 1 [⟨S1024x64, x0⟩, ⟨S1024x8, x1⟩, ⟨S1024x4, x2⟩, ⟨S1024x4, x3⟩, ⟨S1024x4, x4⟩, ⟨S1024x4, x5⟩, ⟨S1024x40, x6⟩] concatenates_S1024x64_S1024x8_S1024x4_S1024x4_S1024x4_S1024x4_S1024x40_S1024x128_d1 (ix2 k j) = x3 (ix2 k ⟨j.val - 76, by omega⟩) := by
  rw [scat_at, dif_neg (by omega), dif_neg (by omega), dif_neg (by omega), dif_pos (by omega)]
  first | done | exact congrArg x3 (congrArg (ix2 k) (Fin.ext (by first | omega | (dsimp only; omega))))

theorem scat_4 (x0 : FVec Ideal S1024x64 .f32) (x1 : FVec Ideal S1024x8 .f32) (x2 : FVec Ideal S1024x4 .f32) (x3 : FVec Ideal S1024x4 .f32) (x4 : FVec Ideal S1024x4 .f32) (x5 : FVec Ideal S1024x4 .f32) (x6 : FVec Ideal S1024x40 .f32) (j : Fin 128) (h : 80 ≤ j.val) (h' : j.val < 84) :
    concatenate S1024x128 1 [⟨S1024x64, x0⟩, ⟨S1024x8, x1⟩, ⟨S1024x4, x2⟩, ⟨S1024x4, x3⟩, ⟨S1024x4, x4⟩, ⟨S1024x4, x5⟩, ⟨S1024x40, x6⟩] concatenates_S1024x64_S1024x8_S1024x4_S1024x4_S1024x4_S1024x4_S1024x40_S1024x128_d1 (ix2 k j) = x4 (ix2 k ⟨j.val - 80, by omega⟩) := by
  rw [scat_at, dif_neg (by omega), dif_neg (by omega), dif_neg (by omega), dif_neg (by omega), dif_pos (by omega)]
  first | done | exact congrArg x4 (congrArg (ix2 k) (Fin.ext (by first | omega | (dsimp only; omega))))

theorem scat_5 (x0 : FVec Ideal S1024x64 .f32) (x1 : FVec Ideal S1024x8 .f32) (x2 : FVec Ideal S1024x4 .f32) (x3 : FVec Ideal S1024x4 .f32) (x4 : FVec Ideal S1024x4 .f32) (x5 : FVec Ideal S1024x4 .f32) (x6 : FVec Ideal S1024x40 .f32) (j : Fin 128) (h : 84 ≤ j.val) (h' : j.val < 88) :
    concatenate S1024x128 1 [⟨S1024x64, x0⟩, ⟨S1024x8, x1⟩, ⟨S1024x4, x2⟩, ⟨S1024x4, x3⟩, ⟨S1024x4, x4⟩, ⟨S1024x4, x5⟩, ⟨S1024x40, x6⟩] concatenates_S1024x64_S1024x8_S1024x4_S1024x4_S1024x4_S1024x4_S1024x40_S1024x128_d1 (ix2 k j) = x5 (ix2 k ⟨j.val - 84, by omega⟩) := by
  rw [scat_at, dif_neg (by omega), dif_neg (by omega), dif_neg (by omega), dif_neg (by omega), dif_neg (by omega), dif_pos (by omega)]
  first | done | exact congrArg x5 (congrArg (ix2 k) (Fin.ext (by first | omega | (dsimp only; omega))))

theorem scat_6 (x0 : FVec Ideal S1024x64 .f32) (x1 : FVec Ideal S1024x8 .f32) (x2 : FVec Ideal S1024x4 .f32) (x3 : FVec Ideal S1024x4 .f32) (x4 : FVec Ideal S1024x4 .f32) (x5 : FVec Ideal S1024x4 .f32) (x6 : FVec Ideal S1024x40 .f32) (j : Fin 128) (h : 88 ≤ j.val) (h' : j.val < 128) :
    concatenate S1024x128 1 [⟨S1024x64, x0⟩, ⟨S1024x8, x1⟩, ⟨S1024x4, x2⟩, ⟨S1024x4, x3⟩, ⟨S1024x4, x4⟩, ⟨S1024x4, x5⟩, ⟨S1024x40, x6⟩] concatenates_S1024x64_S1024x8_S1024x4_S1024x4_S1024x4_S1024x4_S1024x40_S1024x128_d1 (ix2 k j) = x6 (ix2 k ⟨j.val - 88, by omega⟩) := by
  rw [scat_at, dif_neg (by omega), dif_neg (by omega), dif_neg (by omega), dif_neg (by omega), dif_neg (by omega), dif_neg (by omega)]
  first | done | exact congrArg x6 (congrArg (ix2 k) (Fin.ext (by first | omega | (dsimp only; omega))))

theorem w_v19 (j : Fin 8576) (h : 0 ≤ j.val) (h' : j.val < 256) :
    V m c main_v40 (ix2 k j) = m ((c : Thread nD τ).loc main_arg2) (ix2 k ⟨j.val, by omega⟩) := by
  after_reads_simp
  refine (wcat_0 k _ _ _ _ _ _ _ _ _ _ _ _ _ j h h').trans ?_
  show StableHlo.upto (hostOps0 (F := Ideal)) (fun b => m (c, b)) 43 (Proc.devRef .tc main_v19) (ix2 k ⟨j.val - 0, by omega⟩) = _
  after_reads_simp
  pointwise
  first | done | exact congrArg (m ((c : Thread nD τ).loc main_arg2)) (congrArg (ix2 k) (Fin.ext (by first | omega | (dsimp only; omega))))

theorem w_v20 (j : Fin 8576) (h : 256 ≤ j.val) (h' : j.val < 512) :
    V m c main_v40 (ix2 k j) = m ((c : Thread nD τ).loc main_arg2) (ix2 k ⟨j.val, by omega⟩) := by
  after_reads_simp
  refine (wcat_1 k _ _ _ _ _ _ _ _ _ _ _ _ _ j h h').trans ?_
  show StableHlo.upto (hostOps0 (F := Ideal)) (fun b => m (c, b)) 43 (Proc.devRef .tc main_v20) (ix2 k ⟨j.val - 256, by omega⟩) = _
  after_reads_simp
  pointwise
  first | done | exact congrArg (m ((c : Thread nD τ).loc main_arg2)) (congrArg (ix2 k) (Fin.ext (by first | omega | (dsimp only; omega))))

theorem w_v21 (j : Fin 8576) (h : 512 ≤ j.val) (h' : j.val < 768) :
    V m c main_v40 (ix2 k j) = m ((c : Thread nD τ).loc main_arg2) (ix2 k ⟨j.val, by omega⟩) := by
  after_reads_simp
  refine (wcat_2 k _ _ _ _ _ _ _ _ _ _ _ _ _ j h h').trans ?_
  show StableHlo.upto (hostOps0 (F := Ideal)) (fun b => m (c, b)) 43 (Proc.devRef .tc main_v21) (ix2 k ⟨j.val - 512, by omega⟩) = _
  after_reads_simp
  pointwise
  first | done | exact congrArg (m ((c : Thread nD τ).loc main_arg2)) (congrArg (ix2 k) (Fin.ext (by first | omega | (dsimp only; omega))))

theorem w_v22 (j : Fin 8576) (h : 768 ≤ j.val) (h' : j.val < 1280) :
    V m c main_v40 (ix2 k j) = m ((c : Thread nD τ).loc main_arg2) (ix2 k ⟨j.val, by omega⟩) := by
  after_reads_simp
  refine (wcat_3 k _ _ _ _ _ _ _ _ _ _ _ _ _ j h h').trans ?_
  show StableHlo.upto (hostOps0 (F := Ideal)) (fun b => m (c, b)) 43 (Proc.devRef .tc main_v22) (ix2 k ⟨j.val - 768, by omega⟩) = _
  after_reads_simp
  pointwise
  first | done | exact congrArg (m ((c : Thread nD τ).loc main_arg2)) (congrArg (ix2 k) (Fin.ext (by first | omega | (dsimp only; omega))))

theorem w_v23 (j : Fin 8576) (h : 1280 ≤ j.val) (h' : j.val < 1344) :
    V m c main_v40 (ix2 k j) = m ((c : Thread nD τ).loc main_arg2) (ix2 k ⟨j.val + 0, by omega⟩) := by
  after_reads_simp
  refine (wcat_4 k _ _ _ _ _ _ _ _ _ _ _ _ _ j (by omega) (by omega)).trans ?_
  show StableHlo.upto (hostOps0 (F := Ideal)) (fun b => m (c, b)) 43 (Proc.devRef .tc main_v38) (ix2 k ⟨j.val - 1280, by omega⟩) = _
  after_reads_simp
  refine (scat_0 k _ _ _ _ _ _ _ _ (by dsimp only; omega) (by dsimp only; omega)).trans ?_
  show StableHlo.upto (hostOps0 (F := Ideal)) (fun b => m (c, b)) 42 (Proc.devRef .tc main_v23) (ix2 k ⟨j.val - 1280 - 0, by omega⟩) = _
  after_reads_simp
  pointwise
  refine congrArg (m ((c : Thread nD τ).loc main_arg2)) (congrArg (ix2 k) (Fin.ext ?_))
  first | omega | (dsimp only; omega)

theorem w_v24 (j : Fin 8576) (h : 1344 ≤ j.val) (h' : j.val < 1352) :
    V m c main_v40 (ix2 k j) = m ((c : Thread nD τ).loc main_arg2) (ix2 k ⟨j.val + 0, by omega⟩) := by
  after_reads_simp
  refine (wcat_4 k _ _ _ _ _ _ _ _ _ _ _ _ _ j (by omega) (by omega)).trans ?_
  show StableHlo.upto (hostOps0 (F := Ideal)) (fun b => m (c, b)) 43 (Proc.devRef .tc main_v38) (ix2 k ⟨j.val - 1280, by omega⟩) = _
  after_reads_simp
  refine (scat_1 k _ _ _ _ _ _ _ _ (by dsimp only; omega) (by dsimp only; omega)).trans ?_
  show StableHlo.upto (hostOps0 (F := Ideal)) (fun b => m (c, b)) 42 (Proc.devRef .tc main_v24) (ix2 k ⟨j.val - 1280 - 64, by omega⟩) = _
  after_reads_simp
  pointwise
  refine congrArg (m ((c : Thread nD τ).loc main_arg2)) (congrArg (ix2 k) (Fin.ext ?_))
  first | omega | (dsimp only; omega)

theorem w_v28 (j : Fin 8576) (h : 1352 ≤ j.val) (h' : j.val < 1356) :
    V m c main_v40 (ix2 k j) = m ((c : Thread nD τ).loc main_arg2) (ix2 k ⟨j.val + 768, by omega⟩) := by
  after_reads_simp
  refine (wcat_4 k _ _ _ _ _ _ _ _ _ _ _ _ _ j (by omega) (by omega)).trans ?_
  show StableHlo.upto (hostOps0 (F := Ideal)) (fun b => m (c, b)) 43 (Proc.devRef .tc main_v38) (ix2 k ⟨j.val - 1280, by omega⟩) = _
  after_reads_simp
  refine (scat_2 k _ _ _ _ _ _ _ _ (by dsimp only; omega) (by dsimp only; omega)).trans ?_
  show StableHlo.upto (hostOps0 (F := Ideal)) (fun b => m (c, b)) 42 (Proc.devRef .tc main_v28) (ix2 k ⟨j.val - 1280 - 72, by omega⟩) = _
  after_reads_simp
  pointwise
  refine congrArg (m ((c : Thread nD τ).loc main_arg2)) (congrArg (ix2 k) (Fin.ext ?_))
  first | omega | (dsimp only; omega)

theorem w_v29 (j : Fin 8576) (h : 1356 ≤ j.val) (h' : j.val < 1360) :
    V m c main_v40 (ix2 k j) = m ((c : Thread nD τ).loc main_arg2) (ix2 k ⟨j.val + 768, by omega⟩) := by
  after_reads_simp
  refine (wcat_4 k _ _ _ _ _ _ _ _ _ _ _ _ _ j (by omega) (by omega)).trans ?_
  show StableHlo.upto (hostOps0 (F := Ideal)) (fun b => m (c, b)) 43 (Proc.devRef .tc main_v38) (ix2 k ⟨j.val - 1280, by omega⟩) = _
  after_reads_simp
  refine (scat_3 k _ _ _ _ _ _ _ _ (by dsimp only; omega) (by dsimp only; omega)).trans ?_
  show StableHlo.upto (hostOps0 (F := Ideal)) (fun b => m (c, b)) 42 (Proc.devRef .tc main_v29) (ix2 k ⟨j.val - 1280 - 76, by omega⟩) = _
  after_reads_simp
  pointwise
  refine congrArg (m ((c : Thread nD τ).loc main_arg2)) (congrArg (ix2 k) (Fin.ext ?_))
  first | omega | (dsimp only; omega)

theorem w_v33 (j : Fin 8576) (h : 1360 ≤ j.val) (h' : j.val < 1364) :
    V m c main_v40 (ix2 k j) = m ((c : Thread nD τ).loc main_arg2) (ix2 k ⟨j.val + 2816, by omega⟩) := by
  after_reads_simp
  refine (wcat_4 k _ _ _ _ _ _ _ _ _ _ _ _ _ j (by omega) (by omega)).trans ?_
  show StableHlo.upto (hostOps0 (F := Ideal)) (fun b => m (c, b)) 43 (Proc.devRef .tc main_v38) (ix2 k ⟨j.val - 1280, by omega⟩) = _
  after_reads_simp
  refine (scat_4 k _ _ _ _ _ _ _ _ (by dsimp only; omega) (by dsimp only; omega)).trans ?_
  show StableHlo.upto (hostOps0 (F := Ideal)) (fun b => m (c, b)) 42 (Proc.devRef .tc main_v33) (ix2 k ⟨j.val - 1280 - 80, by omega⟩) = _
  after_reads_simp
  pointwise
  refine congrArg (m ((c : Thread nD τ).loc main_arg2)) (congrArg (ix2 k) (Fin.ext ?_))
  first | omega | (dsimp only; omega)

theorem w_v34 (j : Fin 8576) (h : 1364 ≤ j.val) (h' : j.val < 1368) :
    V m c main_v40 (ix2 k j) = m ((c : Thread nD τ).loc main_arg2) (ix2 k ⟨j.val + 2816, by omega⟩) := by
  after_reads_simp
  refine (wcat_4 k _ _ _ _ _ _ _ _ _ _ _ _ _ j (by omega) (by omega)).trans ?_
  show StableHlo.upto (hostOps0 (F := Ideal)) (fun b => m (c, b)) 43 (Proc.devRef .tc main_v38) (ix2 k ⟨j.val - 1280, by omega⟩) = _
  after_reads_simp
  refine (scat_5 k _ _ _ _ _ _ _ _ (by dsimp only; omega) (by dsimp only; omega)).trans ?_
  show StableHlo.upto (hostOps0 (F := Ideal)) (fun b => m (c, b)) 42 (Proc.devRef .tc main_v34) (ix2 k ⟨j.val - 1280 - 84, by omega⟩) = _
  after_reads_simp
  pointwise
  refine congrArg (m ((c : Thread nD τ).loc main_arg2)) (congrArg (ix2 k) (Fin.ext ?_))
  first | omega | (dsimp only; omega)

theorem w_v37 (j : Fin 8576) (h : 1368 ≤ j.val) (h' : j.val < 1408) :
    V m c main_v40 (ix2 k j) = (0 : EReal) := by
  after_reads_simp
  refine (wcat_4 k _ _ _ _ _ _ _ _ _ _ _ _ _ j (by omega) (by omega)).trans ?_
  show StableHlo.upto (hostOps0 (F := Ideal)) (fun b => m (c, b)) 43 (Proc.devRef .tc main_v38) (ix2 k ⟨j.val - 1280, by omega⟩) = _
  after_reads_simp
  refine (scat_6 k _ _ _ _ _ _ _ _ (by dsimp only; omega) (by dsimp only; omega)).trans ?_
  show StableHlo.upto (hostOps0 (F := Ideal)) (fun b => m (c, b)) 42 (Proc.devRef .tc main_v37) (ix2 k ⟨j.val - 1280 - 88, by omega⟩) = _
  after_reads_simp
  pointwise

theorem w_v25 (j : Fin 8576) (h : 1408 ≤ j.val) (h' : j.val < 1664) :
    V m c main_v40 (ix2 k j) = m ((c : Thread nD τ).loc main_arg2) (ix2 k ⟨j.val - 56, by omega⟩) := by
  after_reads_simp
  refine (wcat_5 k _ _ _ _ _ _ _ _ _ _ _ _ _ j h h').trans ?_
  show StableHlo.upto (hostOps0 (F := Ideal)) (fun b => m (c, b)) 43 (Proc.devRef .tc main_v25) (ix2 k ⟨j.val - 1408, by omega⟩) = _
  after_reads_simp
  pointwise
  first | done | exact congrArg (m ((c : Thread nD τ).loc main_arg2)) (congrArg (ix2 k) (Fin.ext (by first | omega | (dsimp only; omega))))

theorem w_v26 (j : Fin 8576) (h : 1664 ≤ j.val) (h' : j.val < 1920) :
    V m c main_v40 (ix2 k j) = m ((c : Thread nD τ).loc main_arg2) (ix2 k ⟨j.val - 56, by omega⟩) := by
  after_reads_simp
  refine (wcat_6 k _ _ _ _ _ _ _ _ _ _ _ _ _ j h h').trans ?_
  show StableHlo.upto (hostOps0 (F := Ideal)) (fun b => m (c, b)) 43 (Proc.devRef .tc main_v26) (ix2 k ⟨j.val - 1664, by omega⟩) = _
  after_reads_simp
  pointwise
  first | done | exact congrArg (m ((c : Thread nD τ).loc main_arg2)) (congrArg (ix2 k) (Fin.ext (by first | omega | (dsimp only; omega))))

theorem w_v27 (j : Fin 8576) (h : 1920 ≤ j.val) (h' : j.val < 2176) :
    V m c main_v40 (ix2 k j) = m ((c : Thread nD τ).loc main_arg2) (ix2 k ⟨j.val - 56, by omega⟩) := by
  after_reads_simp
  refine (wcat_7 k _ _ _ _ _ _ _ _ _ _ _ _ _ j h h').trans ?_
  show StableHlo.upto (hostOps0 (F := Ideal)) (fun b => m (c, b)) 43 (Proc.devRef .tc main_v27) (ix2 k ⟨j.val - 1920, by omega⟩) = _
  after_reads_simp
  pointwise
  first | done | exact congrArg (m ((c : Thread nD τ).loc main_arg2)) (congrArg (ix2 k) (Fin.ext (by first | omega | (dsimp only; omega))))

theorem w_v30 (j : Fin 8576) (h : 2176 ≤ j.val) (h' : j.val < 2432) :
    V m c main_v40 (ix2 k j) = m ((c : Thread nD τ).loc main_arg2) (ix2 k ⟨j.val - 48, by omega⟩) := by
  after_reads_simp
  refine (wcat_8 k _ _ _ _ _ _ _ _ _ _ _ _ _ j h h').trans ?_
  show StableHlo.upto (hostOps0 (F := Ideal)) (fun b => m (c, b)) 43 (Proc.devRef .tc main_v30) (ix2 k ⟨j.val - 2176, by omega⟩) = _
  after_reads_simp
  pointwise
  first | done | exact congrArg (m ((c : Thread nD τ).loc main_arg2)) (congrArg (ix2 k) (Fin.ext (by first | omega | (dsimp only; omega))))

theorem w_v31 (j : Fin 8576) (h : 2432 ≤ j.val) (h' : j.val < 3456) :
    V m c main_v40 (ix2 k j) = m ((c : Thread nD τ).loc main_arg2) (ix2 k ⟨j.val - 48, by omega⟩) := by
  after_reads_simp
  refine (wcat_9 k _ _ _ _ _ _ _ _ _ _ _ _ _ j h h').trans ?_
  show StableHlo.upto (hostOps0 (F := Ideal)) (fun b => m (c, b)) 43 (Proc.devRef .tc main_v31) (ix2 k ⟨j.val - 2432, by omega⟩) = _
  after_reads_simp
  pointwise
  first | done | exact congrArg (m ((c : Thread nD τ).loc main_arg2)) (congrArg (ix2 k) (Fin.ext (by first | omega | (dsimp only; omega))))

theorem w_v32 (j : Fin 8576) (h : 3456 ≤ j.val) (h' : j.val < 4224) :
    V m c main_v40 (ix2 k j) = m ((c : Thread nD τ).loc main_arg2) (ix2 k ⟨j.val - 48, by omega⟩) := by
  after_reads_simp
  refine (wcat_10 k _ _ _ _ _ _ _ _ _ _ _ _ _ j h h').trans ?_
  show StableHlo.upto (hostOps0 (F := Ideal)) (fun b => m (c, b)) 43 (Proc.devRef .tc main_v32) (ix2 k ⟨j.val - 3456, by omega⟩) = _
  after_reads_simp
  pointwise
  first | done | exact congrArg (m ((c : Thread nD τ).loc main_arg2)) (congrArg (ix2 k) (Fin.ext (by first | omega | (dsimp only; omega))))

theorem w_v35 (j : Fin 8576) (h : 4224 ≤ j.val) (h' : j.val < 4480) :
    V m c main_v40 (ix2 k j) = m ((c : Thread nD τ).loc main_arg2) (ix2 k ⟨j.val - 40, by omega⟩) := by
  after_reads_simp
  refine (wcat_11 k _ _ _ _ _ _ _ _ _ _ _ _ _ j h h').trans ?_
  show StableHlo.upto (hostOps0 (F := Ideal)) (fun b => m (c, b)) 43 (Proc.devRef .tc main_v35) (ix2 k ⟨j.val - 4224, by omega⟩) = _
  after_reads_simp
  pointwise
  first | done | exact congrArg (m ((c : Thread nD τ).loc main_arg2)) (congrArg (ix2 k) (Fin.ext (by first | omega | (dsimp only; omega))))

theorem w_v36 (j : Fin 8576) (h : 4480 ≤ j.val) (h' : j.val < 8576) :
    V m c main_v40 (ix2 k j) = m ((c : Thread nD τ).loc main_arg2) (ix2 k ⟨j.val - 40, by omega⟩) := by
  after_reads_simp
  refine (wcat_12 k _ _ _ _ _ _ _ _ _ _ _ _ _ j h h').trans ?_
  show StableHlo.upto (hostOps0 (F := Ideal)) (fun b => m (c, b)) 43 (Proc.devRef .tc main_v36) (ix2 k ⟨j.val - 4480, by omega⟩) = _
  after_reads_simp
  pointwise
  first | done | exact congrArg (m ((c : Thread nD τ).loc main_arg2)) (congrArg (ix2 k) (Fin.ext (by first | omega | (dsimp only; omega))))

end Cert.Kernel5Ideal.Proj

end
-- ==== Proof.ProjZ.lean ====
/- What the projection's host lines leave in the arrays its kernel reads. -/
module

public import proofs.«01_k».proof.Proof.Gen.Kernel5Ideal.Frame
public import proofs.«01_k».proof.Proof.ProjHost
public import proofs.«01_k».proof.Proof.ProjWeight
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj

variable (m : (ℓ : Loc nD τ sig) → Buf (Elt Ideal) ℓ)

variable (c : Dev nD) (t : Fin cfg0.N)

/-- A row of the normalised block against a column of the padded weight is an entry of the projection. -/
theorem z_at (r : Fin 256) (i : Fin 16640) (hi : i.val = 256 * t.val + r.val) (J : Fin 8576) (j : Fin 8536)
    (hw : ∀ k, V m c main_v40 (ix2 k J) = (m ((c : Thread nD τ).loc main_arg2)) (ix2 k j)) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  obtain rfl : i = row t r := Fin.ext hi
  pointwise [r_v13]
  refine Finset.sum_congr rfl fun k _ => ?_
  rw [h_at, w_at]
  exact congrArg _ (hw k)

theorem z_v19 (r : Fin 256) (i : Fin 16640) (hi : i.val = 256 * t.val + r.val) (J : Fin 8576) (j : Fin 8536)
    (h : 0 ≤ J.val) (h' : J.val < 256) (hj : j.val = J.val) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val, by clear hj; omega⟩ := Fin.ext hj
  exact w_v19 m c k J h h'

theorem z_v20 (r : Fin 256) (i : Fin 16640) (hi : i.val = 256 * t.val + r.val) (J : Fin 8576) (j : Fin 8536)
    (h : 256 ≤ J.val) (h' : J.val < 512) (hj : j.val = J.val) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val, by clear hj; omega⟩ := Fin.ext hj
  exact w_v20 m c k J h h'

theorem z_v21 (r : Fin 256) (i : Fin 16640) (hi : i.val = 256 * t.val + r.val) (J : Fin 8576) (j : Fin 8536)
    (h : 512 ≤ J.val) (h' : J.val < 768) (hj : j.val = J.val) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val, by clear hj; omega⟩ := Fin.ext hj
  exact w_v21 m c k J h h'

theorem z_v22 (r : Fin 256) (i : Fin 16640) (hi : i.val = 256 * t.val + r.val) (J : Fin 8576) (j : Fin 8536)
    (h : 768 ≤ J.val) (h' : J.val < 1280) (hj : j.val = J.val) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val, by clear hj; omega⟩ := Fin.ext hj
  exact w_v22 m c k J h h'

theorem z_v23 (r : Fin 256) (i : Fin 16640) (hi : i.val = 256 * t.val + r.val) (J : Fin 8576) (j : Fin 8536)
    (h : 1280 ≤ J.val) (h' : J.val < 1344) (hj : j.val = J.val + 0) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val + 0, by clear hj; omega⟩ := Fin.ext hj
  exact w_v23 m c k J h h'

theorem z_v24 (r : Fin 256) (i : Fin 16640) (hi : i.val = 256 * t.val + r.val) (J : Fin 8576) (j : Fin 8536)
    (h : 1344 ≤ J.val) (h' : J.val < 1352) (hj : j.val = J.val + 0) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val + 0, by clear hj; omega⟩ := Fin.ext hj
  exact w_v24 m c k J h h'

theorem z_v28 (r : Fin 256) (i : Fin 16640) (hi : i.val = 256 * t.val + r.val) (J : Fin 8576) (j : Fin 8536)
    (h : 1352 ≤ J.val) (h' : J.val < 1356) (hj : j.val = J.val + 768) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val + 768, by clear hj; omega⟩ := Fin.ext hj
  exact w_v28 m c k J h h'

theorem z_v29 (r : Fin 256) (i : Fin 16640) (hi : i.val = 256 * t.val + r.val) (J : Fin 8576) (j : Fin 8536)
    (h : 1356 ≤ J.val) (h' : J.val < 1360) (hj : j.val = J.val + 768) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val + 768, by clear hj; omega⟩ := Fin.ext hj
  exact w_v29 m c k J h h'

theorem z_v33 (r : Fin 256) (i : Fin 16640) (hi : i.val = 256 * t.val + r.val) (J : Fin 8576) (j : Fin 8536)
    (h : 1360 ≤ J.val) (h' : J.val < 1364) (hj : j.val = J.val + 2816) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val + 2816, by clear hj; omega⟩ := Fin.ext hj
  exact w_v33 m c k J h h'

theorem z_v34 (r : Fin 256) (i : Fin 16640) (hi : i.val = 256 * t.val + r.val) (J : Fin 8576) (j : Fin 8536)
    (h : 1364 ≤ J.val) (h' : J.val < 1368) (hj : j.val = J.val + 2816) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val + 2816, by clear hj; omega⟩ := Fin.ext hj
  exact w_v34 m c k J h h'

theorem z_v25 (r : Fin 256) (i : Fin 16640) (hi : i.val = 256 * t.val + r.val) (J : Fin 8576) (j : Fin 8536)
    (h : 1408 ≤ J.val) (h' : J.val < 1664) (hj : j.val = J.val - 56) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val - 56, by clear hj; omega⟩ := Fin.ext hj
  exact w_v25 m c k J h h'

theorem z_v26 (r : Fin 256) (i : Fin 16640) (hi : i.val = 256 * t.val + r.val) (J : Fin 8576) (j : Fin 8536)
    (h : 1664 ≤ J.val) (h' : J.val < 1920) (hj : j.val = J.val - 56) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val - 56, by clear hj; omega⟩ := Fin.ext hj
  exact w_v26 m c k J h h'

theorem z_v27 (r : Fin 256) (i : Fin 16640) (hi : i.val = 256 * t.val + r.val) (J : Fin 8576) (j : Fin 8536)
    (h : 1920 ≤ J.val) (h' : J.val < 2176) (hj : j.val = J.val - 56) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val - 56, by clear hj; omega⟩ := Fin.ext hj
  exact w_v27 m c k J h h'

theorem z_v30 (r : Fin 256) (i : Fin 16640) (hi : i.val = 256 * t.val + r.val) (J : Fin 8576) (j : Fin 8536)
    (h : 2176 ≤ J.val) (h' : J.val < 2432) (hj : j.val = J.val - 48) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val - 48, by clear hj; omega⟩ := Fin.ext hj
  exact w_v30 m c k J h h'

theorem z_v31 (r : Fin 256) (i : Fin 16640) (hi : i.val = 256 * t.val + r.val) (J : Fin 8576) (j : Fin 8536)
    (h : 2432 ≤ J.val) (h' : J.val < 3456) (hj : j.val = J.val - 48) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val - 48, by clear hj; omega⟩ := Fin.ext hj
  exact w_v31 m c k J h h'

theorem z_v32 (r : Fin 256) (i : Fin 16640) (hi : i.val = 256 * t.val + r.val) (J : Fin 8576) (j : Fin 8536)
    (h : 3456 ≤ J.val) (h' : J.val < 4224) (hj : j.val = J.val - 48) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val - 48, by clear hj; omega⟩ := Fin.ext hj
  exact w_v32 m c k J h h'

theorem z_v35 (r : Fin 256) (i : Fin 16640) (hi : i.val = 256 * t.val + r.val) (J : Fin 8576) (j : Fin 8536)
    (h : 4224 ≤ J.val) (h' : J.val < 4480) (hj : j.val = J.val - 40) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val - 40, by clear hj; omega⟩ := Fin.ext hj
  exact w_v35 m c k J h h'

theorem z_v36 (r : Fin 256) (i : Fin 16640) (hi : i.val = 256 * t.val + r.val) (J : Fin 8576) (j : Fin 8536)
    (h : 4480 ≤ J.val) (h' : J.val < 8576) (hj : j.val = J.val - 40) :
    (∑ x, k0_pay4 (iblk m c 0 t) (iblk m c 1 t) (ix2 r x) * iblk m c 2 t (ix2 x J) : EReal) = r_v13 (m ((c : Thread nD τ).loc main_arg0)) (m ((c : Thread nD τ).loc main_arg1)) (m ((c : Thread nD τ).loc main_arg2)) (ix2 i j) := by
  refine z_at m c t r i hi J j fun k => ?_
  obtain rfl : j = ⟨J.val - 40, by clear hj; omega⟩ := Fin.ext hj
  exact w_v36 m c k J h h'

/-- The first product's columns. -/
theorem zq_at (r : Fin 256) (i : Fin 16640) (hi : i.val = 256 * t.val + r.val) (j : Fin 768) :
    k0_pay8 (iblk m c 0 t) (iblk m c 1 t) (View.ld (iblk m c 2 t) (Rect.unit ![0, 0] ![1024, 768] inb_S1024x8576_S1024x768_0_0)) (ix2 r j) = r_v13 (m ((c : Thread nD τ).loc main_arg0)) (m ((c : Thread nD τ).loc main_arg1)) (m ((c : Thread nD τ).loc main_arg2)) (ix2 i ⟨j.val, by omega⟩) := by
  pointwise [k0_pay8]
  by_cases h1 : j.val < 256
  · exact z_v19 m c t r i hi ⟨j.val, by omega⟩ ⟨j.val, by omega⟩ (by first | omega | rfl | (dsimp only; omega)) (by first | omega | rfl | (dsimp only; omega)) (by first | omega | rfl | (dsimp only; omega))
  by_cases h2 : j.val < 512
  · exact z_v20 m c t r i hi ⟨j.val, by omega⟩ ⟨j.val, by omega⟩ (by first | omega | rfl | (dsimp only; omega)) (by first | omega | rfl | (dsimp only; omega)) (by first | omega | rfl | (dsimp only; omega))
  exact z_v21 m c t r i hi ⟨j.val, by omega⟩ ⟨j.val, by omega⟩ (by first | omega | rfl | (dsimp only; omega)) (by first | omega | rfl | (dsimp only; omega)) (by first | omega | rfl | (dsimp only; omega))

/-- The index queries' columns. -/
theorem zi_at (r : Fin 256) (i : Fin 16640) (hi : i.val = 256 * t.val + r.val) (j : Fin 512) :
    k0_pay17 (k0_pay4 (iblk m c 0 t) (iblk m c 1 t)) (View.ld (iblk m c 2 t) (Rect.unit ![0, 768] ![1024, 512] inb_S1024x8576_S1024x512_0_768)) (ix2 r j) = r_v13 (m ((c : Thread nD τ).loc main_arg0)) (m ((c : Thread nD τ).loc main_arg1)) (m ((c : Thread nD τ).loc main_arg2)) (ix2 i ⟨768 + j.val, by omega⟩) := by
  pointwise [k0_pay17]
  exact z_v22 m c t r i hi ⟨768 + j.val, by omega⟩ ⟨768 + j.val, by omega⟩ (by first | omega | rfl | (dsimp only; omega)) (by first | omega | rfl | (dsimp only; omega)) (by first | omega | rfl | (dsimp only; omega))

/-- The narrow product's columns below 72: the index keys and the index weights. -/
theorem zs_lo (r : Fin 256) (i : Fin 16640) (hi : i.val = 256 * t.val + r.val) (j : Fin 128) (h : j.val < 72) :
    k0_pay22 (k0_pay4 (iblk m c 0 t) (iblk m c 1 t)) (View.ld (iblk m c 2 t) (Rect.unit ![0, 1280] ![1024, 128] inb_S1024x8576_S1024x128_0_1280)) (ix2 r j) = r_v13 (m ((c : Thread nD τ).loc main_arg0)) (m ((c : Thread nD τ).loc main_arg1)) (m ((c : Thread nD τ).loc main_arg2)) (ix2 i ⟨1280 + j.val, by omega⟩) := by
  pointwise [k0_pay22]
  by_cases h1 : j.val < 64
  · exact z_v23 m c t r i hi ⟨1280 + j.val, by omega⟩ ⟨1280 + j.val, by omega⟩ (by first | omega | rfl | (dsimp only; omega)) (by first | omega | rfl | (dsimp only; omega)) (by first | omega | rfl | (dsimp only; omega))
  exact z_v24 m c t r i hi ⟨1280 + j.val, by omega⟩ ⟨1280 + j.val, by omega⟩ (by first | omega | rfl | (dsimp only; omega)) (by first | omega | rfl | (dsimp only; omega)) (by first | omega | rfl | (dsimp only; omega))

/-- Its columns from 72 to 80: the two gates of the mLSTM. -/
theorem zs_m (r : Fin 256) (i : Fin 16640) (hi : i.val = 256 * t.val + r.val) (j : Fin 128) (h : 72 ≤ j.val) (h' : j.val < 80) :
    k0_pay22 (k0_pay4 (iblk m c 0 t) (iblk m c 1 t)) (View.ld (iblk m c 2 t) (Rect.unit ![0, 1280] ![1024, 128] inb_S1024x8576_S1024x128_0_1280)) (ix2 r j) = r_v13 (m ((c : Thread nD τ).loc main_arg0)) (m ((c : Thread nD τ).loc main_arg1)) (m ((c : Thread nD τ).loc main_arg2)) (ix2 i ⟨2048 + j.val, by omega⟩) := by
  pointwise [k0_pay22]
  by_cases h1 : j.val < 76
  · exact z_v28 m c t r i hi ⟨1280 + j.val, by omega⟩ ⟨2048 + j.val, by omega⟩ (by first | omega | rfl | (dsimp only; omega)) (by first | omega | rfl | (dsimp only; omega)) (by first | omega | rfl | (dsimp only; omega))
  exact z_v29 m c t r i hi ⟨1280 + j.val, by omega⟩ ⟨2048 + j.val, by omega⟩ (by first | omega | rfl | (dsimp only; omega)) (by first | omega | rfl | (dsimp only; omega)) (by first | omega | rfl | (dsimp only; omega))

/-- Its columns from 80 to 88: the two gates of the delta rule. -/
theorem zs_g (r : Fin 256) (i : Fin 16640) (hi : i.val = 256 * t.val + r.val) (j : Fin 128) (h : 80 ≤ j.val) (h' : j.val < 88) :
    k0_pay22 (k0_pay4 (iblk m c 0 t) (iblk m c 1 t)) (View.ld (iblk m c 2 t) (Rect.unit ![0, 1280] ![1024, 128] inb_S1024x8576_S1024x128_0_1280)) (ix2 r j) = r_v13 (m ((c : Thread nD τ).loc main_arg0)) (m ((c : Thread nD τ).loc main_arg1)) (m ((c : Thread nD τ).loc main_arg2)) (ix2 i ⟨4096 + j.val, by omega⟩) := by
  pointwise [k0_pay22]
  by_cases h1 : j.val < 84
  · exact z_v33 m c t r i hi ⟨1280 + j.val, by omega⟩ ⟨4096 + j.val, by omega⟩ (by first | omega | rfl | (dsimp only; omega)) (by first | omega | rfl | (dsimp only; omega)) (by first | omega | rfl | (dsimp only; omega))
  exact z_v34 m c t r i hi ⟨1280 + j.val, by omega⟩ ⟨4096 + j.val, by omega⟩ (by first | omega | rfl | (dsimp only; omega)) (by first | omega | rfl | (dsimp only; omega)) (by first | omega | rfl | (dsimp only; omega))

end Cert.Kernel5Ideal.Proj

end
-- ==== Proof.ProjWide.lean ====
/- What the projection's host lines leave in the arrays its kernel reads. -/
module

public import proofs.«01_k».proof.Proof.Gen.Kernel5Ideal.Frame
public import proofs.«01_k».proof.Proof.ProjZ
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj

variable (m : (ℓ : Loc nD τ sig) → Buf (Elt Ideal) ℓ)

theorem emb13 (t : Fin cfg0.N) (y : ((cfg0.win 13).xblock (cfg0.grid.coords t)).Idx) :
    ((View.whole main_v69_6).slice (win0_13.rect t)).emb y = ix2 (row t (y 0)) (y 1) := by
  blk_ext [idx t]

theorem wide13 (c : Dev nD) (t : Fin cfg0.N) (r : Fin 256) (j : Fin 4096) :
    k0_pay3 (k0_pay4 (iblk m c 0 t) (iblk m c 1 t)) (View.ld (iblk m c 2 t) (Rect.unit ![0, 4480] ![1024, 4096] inb_S1024x8576_S1024x4096_0_4480)) (ix2 r j) = out_v31 (m ((c : Thread nD τ).loc main_arg0)) (m ((c : Thread nD τ).loc main_arg1)) (m ((c : Thread nD τ).loc main_arg2)) (ix2 (row t r) j) := by
  pointwise [k0_pay3, out_v31]
  exact z_v36 m c t r _ rfl ⟨4480 + j.val, by omega⟩ ⟨4440 + j.val, by omega⟩ (by first | omega | rfl | (dsimp only; omega)) (by first | omega | rfl | (dsimp only; omega)) (by first | omega | rfl | (dsimp only; omega))

theorem eta13 (y : S256x4096.Idx) : y = ix2 (y 0) (y 1) := by
  idx_vars y
  rfl

theorem final13 (c : Dev nD) : (dats m 0 c).arrAt 13 (cfgs 0).N = out_v31 (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]; frame_out
  rw [emb13]
  exact (congrArg _ (eta13 y)).trans (wide13 m c t (y 0) (y 1))

theorem emb11 (t : Fin cfg0.N) (y : ((cfg0.win 11).xblock (cfg0.grid.coords t)).Idx) :
    ((View.whole main_v69_4).slice (win0_11.rect t)).emb y = ix2 (row t (y 0)) (y 1) := by
  blk_ext [idx t]

theorem wide11 (c : Dev nD) (t : Fin cfg0.N) (r : Fin 256) (j : Fin 1024) :
    k0_pay1 (k0_pay4 (iblk m c 0 t) (iblk m c 1 t)) (View.ld (iblk m c 2 t) (Rect.unit ![0, 2432] ![1024, 1024] inb_S1024x8576_S1024x1024_0_2432)) (ix2 r j) = out_v26 (m ((c : Thread nD τ).loc main_arg0)) (m ((c : Thread nD τ).loc main_arg1)) (m ((c : Thread nD τ).loc main_arg2)) (ix2 (row t r) j) := by
  pointwise [k0_pay1, out_v26]
  exact z_v31 m c t r _ rfl ⟨2432 + j.val, by omega⟩ ⟨2384 + j.val, by omega⟩ (by first | omega | rfl | (dsimp only; omega)) (by first | omega | rfl | (dsimp only; omega)) (by first | omega | rfl | (dsimp only; omega))

theorem eta11 (y : S256x1024.Idx) : y = ix2 (y 0) (y 1) := by
  idx_vars y
  rfl

theorem final11 (c : Dev nD) : (dats m 0 c).arrAt 11 (cfgs 0).N = out_v26 (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]; frame_out
  rw [emb11]
  exact (congrArg _ (eta11 y)).trans (wide11 m c t (y 0) (y 1))

end Cert.Kernel5Ideal.Proj

end
-- ==== Proof.ProjWideB.lean ====
/- What the projection's host lines leave in the arrays its kernel reads. -/
module

public import proofs.«01_k».proof.Proof.Gen.Kernel5Ideal.Frame
public import proofs.«01_k».proof.Proof.ProjWide
public import proofs.«01_k».proof.Proof.ProjZ
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj

variable (m : (ℓ : Loc nD τ sig) → Buf (Elt Ideal) ℓ)

theorem emb12 (t : Fin cfg0.N) (y : ((cfg0.win 12).xblock (cfg0.grid.coords t)).Idx) :
    ((View.whole main_v69_5).slice (win0_12.rect t)).emb y = ix2 (row t (y 0)) (y 1) := by
  blk_ext [idx t]

theorem wide12 (c : Dev nD) (t : Fin cfg0.N) (r : Fin 256) (j : Fin 1024) :
    k0_pay2 (k0_pay4 (iblk m c 0 t) (iblk m c 1 t)) (View.ld (iblk m c 2 t) (Rect.unit ![0, 3456] ![1024, 1024] inb_S1024x8576_S1024x1024_0_3456)) (ix2 r j) = out_v193 (m ((c : Thread nD τ).loc main_arg0)) (m ((c : Thread nD τ).loc main_arg1)) (m ((c : Thread nD τ).loc main_arg2)) (ix2 (row t r) j) := by
  pointwise [k0_pay2, out_v193]
  by_cases h0 : j.val < 768
  · simp only [h0, ↓reduceDIte]
    exact z_v32 m c t r _ rfl ⟨3456 + j.val, by omega⟩ ⟨3408 + j.val, by omega⟩ (by first | omega | rfl | (dsimp only; omega)) (by first | omega | rfl | (dsimp only; omega)) (by first | omega | rfl | (dsimp only; omega))
  simp only [h0, ↓reduceDIte]
  exact z_v35 m c t r _ rfl ⟨3456 + j.val, by omega⟩ ⟨4184 + (j.val - 768), by omega⟩ (by first | omega | rfl | (dsimp only; omega)) (by first | omega | rfl | (dsimp only; omega)) (by first | omega | rfl | (dsimp only; omega))

theorem eta12 (y : S256x1024.Idx) : y = ix2 (y 0) (y 1) := by
  idx_vars y
  rfl

theorem final12 (c : Dev nD) : (dats m 0 c).arrAt 12 (cfgs 0).N = out_v193 (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  rw [emb12]
  exact (congrArg _ (eta12 y)).trans (wide12 m c t (y 0) (y 1))

theorem emb10 (t : Fin cfg0.N) (y : ((cfg0.win 10).xblock (cfg0.grid.coords t)).Idx) :
    ((View.whole main_v69_3).slice (win0_10.rect t)).emb y = ix2 (row t (y 0)) (y 1) := by
  blk_ext [idx t]

theorem wide10 (c : Dev nD) (t : Fin cfg0.N) (r : Fin 256) (j : Fin 1024) :
    k0_pay38 (k0_pay4 (iblk m c 0 t) (iblk m c 1 t)) (View.ld (iblk m c 2 t) (Rect.unit ![0, 1408] ![1024, 1024] inb_S1024x8576_S1024x1024_0_1408)) (ix2 r j) = out_v192 (m ((c : Thread nD τ).loc main_arg0)) (m ((c : Thread nD τ).loc main_arg1)) (m ((c : Thread nD τ).loc main_arg2)) (ix2 (row t r) j) := by
  pointwise [k0_pay38, out_v192]
  by_cases h0 : j.val < 256
  · simp only [h0, ↓reduceDIte]
    exact z_v25 m c t r _ rfl ⟨1408 + j.val, by omega⟩ ⟨1352 + j.val, by omega⟩ (by first | omega | rfl | (dsimp only; omega)) (by first | omega | rfl | (dsimp only; omega)) (by first | omega | rfl | (dsimp only; omega))
  simp only [h0, ↓reduceDIte]
  by_cases h1 : j.val - 256 < 256
  · simp only [h1, ↓reduceDIte]
    exact z_v26 m c t r _ rfl ⟨1408 + j.val, by omega⟩ ⟨1608 + (j.val - 256), by omega⟩ (by first | omega | rfl | (dsimp only; omega)) (by first | omega | rfl | (dsimp only; omega)) (by first | omega | rfl | (dsimp only; omega))
  simp only [h1, ↓reduceDIte]
  by_cases h2 : j.val - 256 - 256 < 256
  · simp only [h2, ↓reduceDIte]
    exact z_v27 m c t r _ rfl ⟨1408 + j.val, by omega⟩ ⟨1864 + (j.val - 256 - 256), by omega⟩ (by first | omega | rfl | (dsimp only; omega)) (by first | omega | rfl | (dsimp only; omega)) (by first | omega | rfl | (dsimp only; omega))
  simp only [h2, ↓reduceDIte]
  exact z_v30 m c t r _ rfl ⟨1408 + j.val, by omega⟩ ⟨2128 + (j.val - 256 - 256 - 256), by omega⟩ (by first | omega | rfl | (dsimp only; omega)) (by first | omega | rfl | (dsimp only; omega)) (by first | omega | rfl | (dsimp only; omega))

theorem final10 (c : Dev nD) : (dats m 0 c).arrAt 10 (cfgs 0).N = out_v192 (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; frame_out
  rw [emb10]
  exact (congrArg _ (eta12 y)).trans (wide10 m c t (y 0) (y 1))

end Cert.Kernel5Ideal.Proj

end
-- ==== Proof.ProjRope.lean ====
/- What the projection's host lines leave in the arrays its kernel reads. -/
module

public import proofs.«01_k».proof.Proof.Gen.Kernel5Ideal.Frame
public import proofs.«01_k».proof.Proof.ProjWideB
public import proofs.«01_k».proof.Proof.ProjZ
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj

variable (m : (ℓ : Loc nD τ sig) → Buf (Elt Ideal) ℓ)

variable (c : Dev nD) (t : Fin cfg0.N)

theorem cosb_at (r : Fin 256) (j : Fin 128) : iblk m c 3 t (ix2 r j) = V m c main_v15 (ix2 (row t r) j) := by
  blk_ext [iblk, idx t]

theorem sab_at (r : Fin 256) (j : Fin 128) : iblk m c 4 t (ix2 r j) = V m c main_v17 (ix2 (row t r) j) := by
  blk_ext [iblk, idx t]

theorem sbb_at (r : Fin 256) (j : Fin 128) : iblk m c 5 t (ix2 r j) = V m c main_v18 (ix2 (row t r) j) := by
  blk_ext [iblk, idx t]

/-- The three products of a rotation, in the first half of a head. -/
theorem rope_lo (r : Fin 256) (i : Fin 16640) (hi : i.val = 256 * t.val + r.val) (j : Fin 128) (k : Fin 32) (x0 x1 x2 a b : EReal)
    (h : j.val % 64 < 32) (hk : k.val = j.val % 64) (h0 : x0 = a) (h1 : x1 = b) :
    x0 * iblk m c 3 t (ix2 r j) + x1 * iblk m c 4 t (ix2 r j) + x2 * iblk m c 5 t (ix2 r j) = a * Ideal.cos (r_v44 (m ((c : Thread nD τ).loc main_arg3)) (ix2 i k)) - b * Ideal.sin (r_v44 (m ((c : Thread nD τ).loc main_arg3)) (ix2 i k)) := by
  obtain rfl : i = row t r := Fin.ext hi
  obtain rfl : k = ⟨j.val % 32, by clear hk; omega⟩ := Fin.ext (by dsimp only; omega)
  rw [cosb_at, sab_at, sbb_at, cos_at, sa_at, sb_at, if_pos h, if_pos h, h0, h1, mul_zero, add_zero, mul_neg]
  rfl

/-- The three products of a rotation, in the second half of a head. -/
theorem rope_hi (r : Fin 256) (i : Fin 16640) (hi : i.val = 256 * t.val + r.val) (j : Fin 128) (k : Fin 32) (x0 x1 x2 a b : EReal)
    (h : ¬ j.val % 64 < 32) (hk : k.val = j.val % 64 - 32) (h0 : x0 = a) (h2 : x2 = b) :
    x0 * iblk m c 3 t (ix2 r j) + x1 * iblk m c 4 t (ix2 r j) + x2 * iblk m c 5 t (ix2 r j) = a * Ideal.cos (r_v44 (m ((c : Thread nD τ).loc main_arg3)) (ix2 i k)) + b * Ideal.sin (r_v44 (m ((c : Thread nD τ).loc main_arg3)) (ix2 i k)) := by
  obtain rfl : i = row t r := Fin.ext hi
  obtain rfl : k = ⟨j.val % 32, by clear hk; omega⟩ := Fin.ext (by dsimp only; omega)
  rw [cosb_at, sab_at, sbb_at, cos_at, sa_at, sb_at, if_neg h, if_neg h, h0, h2, mul_zero, add_zero]

theorem ang75 (a3 : IVec S16640 32) : r_v75 a3 = r_v44 a3 := rfl

theorem ang106 (a3 : IVec S16640 32) : r_v106 a3 = r_v44 a3 := rfl

theorem ang150 (a3 : IVec S16640 32) : r_v150 a3 = r_v44 a3 := rfl

theorem zi_eq (r : Fin 256) (i : Fin 16640) (hi : i.val = 256 * t.val + r.val) (J : Fin 512) (j : Fin 8536) (hj : j.val = 768 + J.val) :
    k0_pay17 (k0_pay4 (iblk m c 0 t) (iblk m c 1 t)) (View.ld (iblk m c 2 t) (Rect.unit ![0, 768] ![1024, 512] inb_S1024x8576_S1024x512_0_768)) (ix2 r J) = r_v13 (m ((c : Thread nD τ).loc main_arg0)) (m ((c : Thread nD τ).loc main_arg1)) (m ((c : Thread nD τ).loc main_arg2)) (ix2 i j) := by
  rw [show j = ⟨768 + J.val, by omega⟩ from Fin.ext hj]
  exact zi_at m c t r i hi J

theorem zq_eq (r : Fin 256) (i : Fin 16640) (hi : i.val = 256 * t.val + r.val) (J : Fin 768) (j : Fin 8536) (hj : j.val = J.val) :
    k0_pay8 (iblk m c 0 t) (iblk m c 1 t) (View.ld (iblk m c 2 t) (Rect.unit ![0, 0] ![1024, 768] inb_S1024x8576_S1024x768_0_0)) (ix2 r J) = r_v13 (m ((c : Thread nD τ).loc main_arg0)) (m ((c : Thread nD τ).loc main_arg1)) (m ((c : Thread nD τ).loc main_arg2)) (ix2 i j) := by
  rw [show j = ⟨J.val, by omega⟩ from Fin.ext hj]
  exact zq_at m c t r i hi J

theorem iq0 (r : Fin 256) (j : Fin 128) :
    k0_pay18 (k0_pay4 (iblk m c 0 t) (iblk m c 1 t)) (k0_pay5 (iblk m c 3 t)) (k0_pay6 (iblk m c 4 t)) (k0_pay7 (iblk m c 5 t)) (View.ld (iblk m c 2 t) (Rect.unit ![0, 768] ![1024, 512] inb_S1024x8576_S1024x512_0_768)) (ix2 r j) = out_v124 (m ((c : Thread nD τ).loc main_arg0)) (m ((c : Thread nD τ).loc main_arg1)) (m ((c : Thread nD τ).loc main_arg2)) (m ((c : Thread nD τ).loc main_arg3)) (ix2 (row t r) ⟨j.val, by omega⟩) := by
  pointwise [k0_pay18, out_v124, k0_pay5, k0_pay6, k0_pay7, r_v111, r_v112, r_v94, r_v108, r_v110, ang106]
  by_cases h : j.val % 64 < 32
  · simp only [show (↑j) % 64 < 32 by omega, ↓reduceDIte]
    exact rope_lo m c t r _ rfl j _ _ _ _ _ _ h (by first | rfl | omega | (dsimp only; omega)) (zi_eq m c t r _ rfl _ _ (by first | omega | (dsimp only; omega))) (zi_eq m c t r _ rfl _ _ (by first | omega | (dsimp only; omega)))
  · simp only [show ¬ (↑j) % 64 < 32 by omega, ↓reduceDIte]
    exact rope_hi m c t r _ rfl j _ _ _ _ _ _ h (by first | rfl | omega | (dsimp only; omega)) (zi_eq m c t r _ rfl _ _ (by first | omega | (dsimp only; omega))) (zi_eq m c t r _ rfl _ _ (by first | omega | (dsimp only; omega)))

theorem iq1 (r : Fin 256) (j : Fin 128) :
    k0_pay19 (k0_pay5 (iblk m c 3 t)) (k0_pay6 (iblk m c 4 t)) (k0_pay7 (iblk m c 5 t)) (k0_pay17 (k0_pay4 (iblk m c 0 t) (iblk m c 1 t)) (View.ld (iblk m c 2 t) (Rect.unit ![0, 768] ![1024, 512] inb_S1024x8576_S1024x512_0_768))) (ix2 r j) = out_v124 (m ((c : Thread nD τ).loc main_arg0)) (m ((c : Thread nD τ).loc main_arg1)) (m ((c : Thread nD τ).loc main_arg2)) (m ((c : Thread nD τ).loc main_arg3)) (ix2 (row t r) ⟨128 + j.val, by omega⟩) := by
  pointwise [k0_pay19, out_v124, k0_pay5, k0_pay6, k0_pay7, r_v111, r_v112, r_v94, r_v108, r_v110, ang106]
  by_cases h : j.val % 64 < 32
  · simp only [show (128 + ↑j) % 64 < 32 by omega, ↓reduceDIte]
    exact rope_lo m c t r _ rfl j _ _ _ _ _ _ h (by first | rfl | omega | (dsimp only; omega)) (zi_eq m c t r _ rfl _ _ (by first | omega | (dsimp only; omega))) (zi_eq m c t r _ rfl _ _ (by first | omega | (dsimp only; omega)))
  · simp only [show ¬ (128 + ↑j) % 64 < 32 by omega, ↓reduceDIte]
    exact rope_hi m c t r _ rfl j _ _ _ _ _ _ h (by first | rfl | omega | (dsimp only; omega)) (zi_eq m c t r _ rfl _ _ (by first | omega | (dsimp only; omega))) (zi_eq m c t r _ rfl _ _ (by first | omega | (dsimp only; omega)))

theorem iq2 (r : Fin 256) (j : Fin 128) :
    k0_pay20 (k0_pay5 (iblk m c 3 t)) (k0_pay6 (iblk m c 4 t)) (k0_pay7 (iblk m c 5 t)) (k0_pay17 (k0_pay4 (iblk m c 0 t) (iblk m c 1 t)) (View.ld (iblk m c 2 t) (Rect.unit ![0, 768] ![1024, 512] inb_S1024x8576_S1024x512_0_768))) (ix2 r j) = out_v124 (m ((c : Thread nD τ).loc main_arg0)) (m ((c : Thread nD τ).loc main_arg1)) (m ((c : Thread nD τ).loc main_arg2)) (m ((c : Thread nD τ).loc main_arg3)) (ix2 (row t r) ⟨256 + j.val, by omega⟩) := by
  pointwise [k0_pay20, out_v124, k0_pay5, k0_pay6, k0_pay7, r_v111, r_v112, r_v94, r_v108, r_v110, ang106]
  by_cases h : j.val % 64 < 32
  · simp only [show (256 + ↑j) % 64 < 32 by omega, ↓reduceDIte]
    exact rope_lo m c t r _ rfl j _ _ _ _ _ _ h (by first | rfl | omega | (dsimp only; omega)) (zi_eq m c t r _ rfl _ _ (by first | omega | (dsimp only; omega))) (zi_eq m c t r _ rfl _ _ (by first | omega | (dsimp only; omega)))
  · simp only [show ¬ (256 + ↑j) % 64 < 32 by omega, ↓reduceDIte]
    exact rope_hi m c t r _ rfl j _ _ _ _ _ _ h (by first | rfl | omega | (dsimp only; omega)) (zi_eq m c t r _ rfl _ _ (by first | omega | (dsimp only; omega))) (zi_eq m c t r _ rfl _ _ (by first | omega | (dsimp only; omega)))

theorem iq3 (r : Fin 256) (j : Fin 128) :
    k0_pay21 (k0_pay5 (iblk m c 3 t)) (k0_pay6 (iblk m c 4 t)) (k0_pay7 (iblk m c 5 t)) (k0_pay17 (k0_pay4 (iblk m c 0 t) (iblk m c 1 t)) (View.ld (iblk m c 2 t) (Rect.unit ![0, 768] ![1024, 512] inb_S1024x8576_S1024x512_0_768))) (ix2 r j) = out_v124 (m ((c : Thread nD τ).loc main_arg0)) (m ((c : Thread nD τ).loc main_arg1)) (m ((c : Thread nD τ).loc main_arg2)) (m ((c : Thread nD τ).loc main_arg3)) (ix2 (row t r) ⟨384 + j.val, by omega⟩) := by
  pointwise [k0_pay21, out_v124, k0_pay5, k0_pay6, k0_pay7, r_v111, r_v112, r_v94, r_v108, r_v110, ang106]
  by_cases h : j.val % 64 < 32
  · simp only [show (384 + ↑j) % 64 < 32 by omega, ↓reduceDIte]
    exact rope_lo m c t r _ rfl j _ _ _ _ _ _ h (by first | rfl | omega | (dsimp only; omega)) (zi_eq m c t r _ rfl _ _ (by first | omega | (dsimp only; omega))) (zi_eq m c t r _ rfl _ _ (by first | omega | (dsimp only; omega)))
  · simp only [show ¬ (384 + ↑j) % 64 < 32 by omega, ↓reduceDIte]
    exact rope_hi m c t r _ rfl j _ _ _ _ _ _ h (by first | rfl | omega | (dsimp only; omega)) (zi_eq m c t r _ rfl _ _ (by first | omega | (dsimp only; omega))) (zi_eq m c t r _ rfl _ _ (by first | omega | (dsimp only; omega)))

theorem aq0 (r : Fin 256) (j : Fin 128) :
    k0_pay9 (iblk m c 0 t) (iblk m c 1 t) (iblk m c 3 t) (iblk m c 4 t) (iblk m c 5 t) (View.ld (iblk m c 2 t) (Rect.unit ![0, 0] ![1024, 768] inb_S1024x8576_S1024x768_0_0)) (ix2 r j) = out_v191 (m ((c : Thread nD τ).loc main_arg0)) (m ((c : Thread nD τ).loc main_arg1)) (m ((c : Thread nD τ).loc main_arg2)) (m ((c : Thread nD τ).loc main_arg3)) (ix2 (row t r) ⟨j.val, by omega⟩) := by
  pointwise [k0_pay9, out_v191, k0_pay5, k0_pay6, k0_pay7, r_v49, r_v50, r_v32, r_v46, r_v48, r_v80, r_v81, r_v63, r_v77, r_v79, ang75]
  simp only [show ↑j < 256 by omega, ↓reduceDIte]
  by_cases h : j.val % 64 < 32
  · simp only [show (↑j) % 64 < 32 by omega, ↓reduceDIte]
    exact rope_lo m c t r _ rfl j _ _ _ _ _ _ h (by first | rfl | omega | (dsimp only; omega)) (zq_eq m c t r _ rfl _ _ (by first | omega | (dsimp only; omega))) (zq_eq m c t r _ rfl _ _ (by first | omega | (dsimp only; omega)))
  · simp only [show ¬ (↑j) % 64 < 32 by omega, ↓reduceDIte]
    exact rope_hi m c t r _ rfl j _ _ _ _ _ _ h (by first | rfl | omega | (dsimp only; omega)) (zq_eq m c t r _ rfl _ _ (by first | omega | (dsimp only; omega))) (zq_eq m c t r _ rfl _ _ (by first | omega | (dsimp only; omega)))

theorem aq1 (r : Fin 256) (j : Fin 128) :
    k0_pay13 (k0_pay6 (iblk m c 4 t)) (k0_pay7 (iblk m c 5 t)) (k0_pay10 (iblk m c 0 t) (iblk m c 1 t) (View.ld (iblk m c 2 t) (Rect.unit ![0, 0] ![1024, 768] inb_S1024x8576_S1024x768_0_0))) (k0_pay11 (iblk m c 0 t) (iblk m c 1 t) (iblk m c 3 t) (View.ld (iblk m c 2 t) (Rect.unit ![0, 0] ![1024, 768] inb_S1024x8576_S1024x768_0_0))) (k0_pay12 (iblk m c 0 t) (iblk m c 1 t) (View.ld (iblk m c 2 t) (Rect.unit ![0, 0] ![1024, 768] inb_S1024x8576_S1024x768_0_0))) (ix2 r j) = out_v191 (m ((c : Thread nD τ).loc main_arg0)) (m ((c : Thread nD τ).loc main_arg1)) (m ((c : Thread nD τ).loc main_arg2)) (m ((c : Thread nD τ).loc main_arg3)) (ix2 (row t r) ⟨128 + j.val, by omega⟩) := by
  pointwise [k0_pay13, k0_pay10, k0_pay11, k0_pay12, out_v191, k0_pay5, k0_pay6, k0_pay7, r_v49, r_v50, r_v32, r_v46, r_v48, r_v80, r_v81, r_v63, r_v77, r_v79, ang75]
  simp only [show 128 + ↑j < 256 by omega, ↓reduceDIte]
  by_cases h : j.val % 64 < 32
  · simp only [show (128 + ↑j) % 64 < 32 by omega, ↓reduceDIte]
    exact rope_lo m c t r _ rfl j _ _ _ _ _ _ h (by first | rfl | omega | (dsimp only; omega)) (zq_eq m c t r _ rfl _ _ (by first | omega | (dsimp only; omega))) (zq_eq m c t r _ rfl _ _ (by first | omega | (dsimp only; omega)))
  · simp only [show ¬ (128 + ↑j) % 64 < 32 by omega, ↓reduceDIte]
    exact rope_hi m c t r _ rfl j _ _ _ _ _ _ h (by first | rfl | omega | (dsimp only; omega)) (zq_eq m c t r _ rfl _ _ (by first | omega | (dsimp only; omega))) (zq_eq m c t r _ rfl _ _ (by first | omega | (dsimp only; omega)))

theorem aq2 (r : Fin 256) (j : Fin 128) :
    k0_pay14 (k0_pay5 (iblk m c 3 t)) (k0_pay6 (iblk m c 4 t)) (k0_pay7 (iblk m c 5 t)) (k0_pay8 (iblk m c 0 t) (iblk m c 1 t) (View.ld (iblk m c 2 t) (Rect.unit ![0, 0] ![1024, 768] inb_S1024x8576_S1024x768_0_0))) (ix2 r j) = out_v191 (m ((c : Thread nD τ).loc main_arg0)) (m ((c : Thread nD τ).loc main_arg1)) (m ((c : Thread nD τ).loc main_arg2)) (m ((c : Thread nD τ).loc main_arg3)) (ix2 (row t r) ⟨256 + j.val, by omega⟩) := by
  pointwise [k0_pay14, out_v191, k0_pay5, k0_pay6, k0_pay7, r_v49, r_v50, r_v32, r_v46, r_v48, r_v80, r_v81, r_v63, r_v77, r_v79, ang75]
  simp only [show ↑j < 256 by omega, ↓reduceDIte]
  by_cases h : j.val % 64 < 32
  · simp only [show (↑j) % 64 < 32 by omega, ↓reduceDIte]
    exact rope_lo m c t r _ rfl j _ _ _ _ _ _ h (by first | rfl | omega | (dsimp only; omega)) (zq_eq m c t r _ rfl _ _ (by first | omega | (dsimp only; omega))) (zq_eq m c t r _ rfl _ _ (by first | omega | (dsimp only; omega)))
  · simp only [show ¬ (↑j) % 64 < 32 by omega, ↓reduceDIte]
    exact rope_hi m c t r _ rfl j _ _ _ _ _ _ h (by first | rfl | omega | (dsimp only; omega)) (zq_eq m c t r _ rfl _ _ (by first | omega | (dsimp only; omega))) (zq_eq m c t r _ rfl _ _ (by first | omega | (dsimp only; omega)))

theorem aq3 (r : Fin 256) (j : Fin 128) :
    k0_pay15 (k0_pay5 (iblk m c 3 t)) (k0_pay6 (iblk m c 4 t)) (k0_pay7 (iblk m c 5 t)) (k0_pay8 (iblk m c 0 t) (iblk m c 1 t) (View.ld (iblk m c 2 t) (Rect.unit ![0, 0] ![1024, 768] inb_S1024x8576_S1024x768_0_0))) (ix2 r j) = out_v191 (m ((c : Thread nD τ).loc main_arg0)) (m ((c : Thread nD τ).loc main_arg1)) (m ((c : Thread nD τ).loc main_arg2)) (m ((c : Thread nD τ).loc main_arg3)) (ix2 (row t r) ⟨384 + j.val, by omega⟩) := by
  pointwise [k0_pay15, out_v191, k0_pay5, k0_pay6, k0_pay7, r_v49, r_v50, r_v32, r_v46, r_v48, r_v80, r_v81, r_v63, r_v77, r_v79, ang75]
  simp only [show ¬ 384 + ↑j < 256 by omega, ↓reduceDIte]
  simp only [show 384 + ↑j - 256 < 256 by omega, ↓reduceDIte]
  by_cases h : j.val % 64 < 32
  · simp only [show (384 + ↑j - 256) % 64 < 32 by omega, ↓reduceDIte]
    exact rope_lo m c t r _ rfl j _ _ _ _ _ _ h (by first | rfl | omega | (dsimp only; omega)) (zq_eq m c t r _ rfl _ _ (by first | omega | (dsimp only; omega))) (zq_eq m c t r _ rfl _ _ (by first | omega | (dsimp only; omega)))
  · simp only [show ¬ (384 + ↑j - 256) % 64 < 32 by omega, ↓reduceDIte]
    exact rope_hi m c t r _ rfl j _ _ _ _ _ _ h (by first | rfl | omega | (dsimp only; omega)) (zq_eq m c t r _ rfl _ _ (by first | omega | (dsimp only; omega))) (zq_eq m c t r _ rfl _ _ (by first | omega | (dsimp only; omega)))

theorem aq4 (r : Fin 256) (j : Fin 256) :
    k0_pay16 (k0_pay8 (iblk m c 0 t) (iblk m c 1 t) (View.ld (iblk m c 2 t) (Rect.unit ![0, 0] ![1024, 768] inb_S1024x8576_S1024x768_0_0))) (ix2 r j) = out_v191 (m ((c : Thread nD τ).loc main_arg0)) (m ((c : Thread nD τ).loc main_arg1)) (m ((c : Thread nD τ).loc main_arg2)) (m ((c : Thread nD τ).loc main_arg3)) (ix2 (row t r) ⟨512 + j.val, by omega⟩) := by
  pointwise [k0_pay16, out_v191]
  simp only [show ¬ 512 + ↑j < 256 by omega, show ¬ 512 + ↑j - 256 < 256 by omega, ↓reduceDIte]
  exact zq_eq m c t r _ rfl _ _ (by first | omega | (dsimp only; omega))

end Cert.Kernel5Ideal.Proj

end
-- ==== Proof.ProjTurn.lean ====
/- What the projection's host lines leave in the arrays its kernel reads. -/
module

public import proofs.«01_k».proof.Proof.Gen.Kernel5Ideal.Frame
public import proofs.«01_k».proof.Proof.ProjRope
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj

variable (m : (ℓ : Loc nD τ sig) → Buf (Elt Ideal) ℓ)

theorem ix_eq {n : ℕ} (t : Fin cfg0.N) (r r' : Fin 256) (J J' : Fin n) (h0 : r'.val = r.val) (h1 : J'.val = J.val) :
    ix2 (row t r) J = ix2 (row t r') J' := by
  obtain rfl := Fin.ext h0
  obtain rfl := Fin.ext h1
  rfl

theorem emb8 (t : Fin cfg0.N) (y : ((cfg0.win 8).xblock (cfg0.grid.coords t)).Idx) :
    ((View.whole main_v69_1).slice (win0_8.rect t)).emb y = ix2 (row t (y 0)) (y 1) := by
  blk_ext [idx t]

set_option maxHeartbeats 4000000 in
theorem final8 (c : Dev nD) : (dats m 0 c).arrAt 8 (cfgs 0).N = out_v124 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  rw [emb8]
  canon_tiles x h using View.cover_of_tiledBy _ ![256, 128] (by sl_kernel_rfl) _
  · idx_vars x
    exact (iq3 m c t _ _).trans (congrArg _ (ix_eq t _ _ _ _ (by assumption) (by assumption)))
  · idx_vars x
    exact (iq2 m c t _ _).trans (congrArg _ (ix_eq t _ _ _ _ (by assumption) (by assumption)))
  · idx_vars x
    exact (iq1 m c t _ _).trans (congrArg _ (ix_eq t _ _ _ _ (by assumption) (by assumption)))
  · idx_vars x
    exact (iq0 m c t _ _).trans (congrArg _ (ix_eq t _ _ _ _ (by assumption) (by assumption)))

theorem emb7 (t : Fin cfg0.N) (y : ((cfg0.win 7).xblock (cfg0.grid.coords t)).Idx) :
    ((View.whole main_v69_0).slice (win0_7.rect t)).emb y = ix2 (row t (y 0)) (y 1) := by
  blk_ext [idx t]

set_option maxHeartbeats 4000000 in
theorem final7 (c : Dev nD) : (dats m 0 c).arrAt 7 (cfgs 0).N = out_v191 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; unfold outsAt0; dsimp only; frame_out
  rw [emb7]
  canon_tiles x h using View.cover_of_tiledBy _ ![256, 128] (by sl_kernel_rfl) _
  · idx_vars x
    exact (aq4 m c t _ _).trans (congrArg _ (ix_eq t _ _ _ _ (by assumption) (by assumption)))
  · idx_vars x
    exact (aq3 m c t _ _).trans (congrArg _ (ix_eq t _ _ _ _ (by assumption) (by assumption)))
  · idx_vars x
    exact (aq2 m c t _ _).trans (congrArg _ (ix_eq t _ _ _ _ (by assumption) (by assumption)))
  · idx_vars x
    exact (aq1 m c t _ _).trans (congrArg _ (ix_eq t _ _ _ _ (by assumption) (by assumption)))
  · idx_vars x
    exact (aq0 m c t _ _).trans (congrArg _ (ix_eq t _ _ _ _ (by assumption) (by assumption)))

end Cert.Kernel5Ideal.Proj

end
-- ==== Proof.ProjScatter.lean ====
/- What the projection's host lines leave in the arrays its kernel reads. -/
module

public import proofs.«01_k».proof.Proof.Gen.Kernel5Ideal.Frame
public import proofs.«01_k».proof.Proof.ProjTurn
public import proofs.«01_k».proof.Proof.ProjHost
public import proofs.«01_k».proof.Proof.ScatterSet
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj

variable (m : (ℓ : Loc nD τ sig) → Buf (Elt Ideal) ℓ)

theorem sc0_ix : ∀ n : Fin 64, scatter_S128_S1_S64_0_n_0_0.resultIdx? (S64.rowMajor.symm n) (fun _ => 0#32) = some (ix1 (⟨0 + n.val, by omega⟩ : Fin 128)) := by
  decide +kernel

theorem sc0_row0 : ∀ n : Fin 64, (S64.rowMajor.symm n 0).val = n.val := by
  decide +kernel

theorem sc0_row (n : Fin 64) : S64.rowMajor.symm n = ix1 n := by
  funext k
  obtain rfl : k = 0 := Subsingleton.elim _ _
  exact Fin.ext (sc0_row0 n)

theorem sc0 (x : FVec Ideal S128 .f32) (idx : IVec S1 32) (hidx : idx = fun _ => 0#32) (u : FVec Ideal S64 .f32) (j : Fin 128) :
    Host.scatter scatter_S128_S1_S64_0_n_0_0 (fun _ b => b) x idx u (ix1 j) = if h : 0 ≤ j.val ∧ j.val < 64 then u (ix1 ⟨j.val - 0, by omega⟩) else x (ix1 j) := by
  subst hidx
  obtain ⟨h1, h2⟩ := Cert.Reads.scatter_set scatter_S128_S1_S64_0_n_0_0 x (fun _ => 0#32) u
    (fun n : Fin 64 => ix1 (⟨0 + n.val, by omega⟩ : Fin 128))
    (fun a b e => Fin.ext (by have := congrArg (fun f => (f 0).val) e; dsimp only at this; change 0 + a.val = 0 + b.val at this; omega)) sc0_ix
  split
  · rename_i h
    have e : j = ⟨0 + (⟨j.val - 0, by omega⟩ : Fin 64).val, by dsimp only; omega⟩ := Fin.ext (by dsimp only; omega)
    rw [show (ix1 j : S128.Idx) = ix1 (⟨0 + (⟨j.val - 0, by omega⟩ : Fin 64).val, by dsimp only; omega⟩ : Fin 128) from congrArg _ e]
    exact (h2 (⟨j.val - 0, by omega⟩ : Fin 64)).trans (congrArg u (sc0_row _))
  · rename_i h
    refine h1 _ fun n e => h ?_
    have := congrArg (fun f => (f 0).val) e
    change 0 + n.val = j.val at this
    have : n.val < 64 := n.isLt
    omega

theorem sc72_ix : ∀ n : Fin 4, scatter_S128_S1_S4_0_n_0_0.resultIdx? (S4.rowMajor.symm n) (fun _ => 72#32) = some (ix1 (⟨72 + n.val, by omega⟩ : Fin 128)) := by
  decide +kernel

theorem sc72_row0 : ∀ n : Fin 4, (S4.rowMajor.symm n 0).val = n.val := by
  decide +kernel

theorem sc72_row (n : Fin 4) : S4.rowMajor.symm n = ix1 n := by
  funext k
  obtain rfl : k = 0 := Subsingleton.elim _ _
  exact Fin.ext (sc72_row0 n)

theorem sc72 (x : FVec Ideal S128 .f32) (idx : IVec S1 32) (hidx : idx = fun _ => 72#32) (u : FVec Ideal S4 .f32) (j : Fin 128) :
    Host.scatter scatter_S128_S1_S4_0_n_0_0 (fun _ b => b) x idx u (ix1 j) = if h : 72 ≤ j.val ∧ j.val < 76 then u (ix1 ⟨j.val - 72, by omega⟩) else x (ix1 j) := by
  subst hidx
  obtain ⟨h1, h2⟩ := Cert.Reads.scatter_set scatter_S128_S1_S4_0_n_0_0 x (fun _ => 72#32) u
    (fun n : Fin 4 => ix1 (⟨72 + n.val, by omega⟩ : Fin 128))
    (fun a b e => Fin.ext (by have := congrArg (fun f => (f 0).val) e; dsimp only at this; change 72 + a.val = 72 + b.val at this; omega)) sc72_ix
  split
  · rename_i h
    have e : j = ⟨72 + (⟨j.val - 72, by omega⟩ : Fin 4).val, by dsimp only; omega⟩ := Fin.ext (by dsimp only; omega)
    rw [show (ix1 j : S128.Idx) = ix1 (⟨72 + (⟨j.val - 72, by omega⟩ : Fin 4).val, by dsimp only; omega⟩ : Fin 128) from congrArg _ e]
    exact (h2 (⟨j.val - 72, by omega⟩ : Fin 4)).trans (congrArg u (sc72_row _))
  · rename_i h
    refine h1 _ fun n e => h ?_
    have := congrArg (fun f => (f 0).val) e
    change 72 + n.val = j.val at this
    have : n.val < 4 := n.isLt
    omega

theorem sc76_ix : ∀ n : Fin 4, scatter_S128_S1_S4_0_n_0_0.resultIdx? (S4.rowMajor.symm n) (fun _ => 76#32) = some (ix1 (⟨76 + n.val, by omega⟩ : Fin 128)) := by
  decide +kernel

theorem sc76_row0 : ∀ n : Fin 4, (S4.rowMajor.symm n 0).val = n.val := by
  decide +kernel

theorem sc76_row (n : Fin 4) : S4.rowMajor.symm n = ix1 n := by
  funext k
  obtain rfl : k = 0 := Subsingleton.elim _ _
  exact Fin.ext (sc76_row0 n)

theorem sc76 (x : FVec Ideal S128 .f32) (idx : IVec S1 32) (hidx : idx = fun _ => 76#32) (u : FVec Ideal S4 .f32) (j : Fin 128) :
    Host.scatter scatter_S128_S1_S4_0_n_0_0 (fun _ b => b) x idx u (ix1 j) = if h : 76 ≤ j.val ∧ j.val < 80 then u (ix1 ⟨j.val - 76, by omega⟩) else x (ix1 j) := by
  subst hidx
  obtain ⟨h1, h2⟩ := Cert.Reads.scatter_set scatter_S128_S1_S4_0_n_0_0 x (fun _ => 76#32) u
    (fun n : Fin 4 => ix1 (⟨76 + n.val, by omega⟩ : Fin 128))
    (fun a b e => Fin.ext (by have := congrArg (fun f => (f 0).val) e; dsimp only at this; change 76 + a.val = 76 + b.val at this; omega)) sc76_ix
  split
  · rename_i h
    have e : j = ⟨76 + (⟨j.val - 76, by omega⟩ : Fin 4).val, by dsimp only; omega⟩ := Fin.ext (by dsimp only; omega)
    rw [show (ix1 j : S128.Idx) = ix1 (⟨76 + (⟨j.val - 76, by omega⟩ : Fin 4).val, by dsimp only; omega⟩ : Fin 128) from congrArg _ e]
    exact (h2 (⟨j.val - 76, by omega⟩ : Fin 4)).trans (congrArg u (sc76_row _))
  · rename_i h
    refine h1 _ fun n e => h ?_
    have := congrArg (fun f => (f 0).val) e
    change 76 + n.val = j.val at this
    have : n.val < 4 := n.isLt
    omega

theorem sc84_ix : ∀ n : Fin 4, scatter_S128_S1_S4_0_n_0_0.resultIdx? (S4.rowMajor.symm n) (fun _ => 84#32) = some (ix1 (⟨84 + n.val, by omega⟩ : Fin 128)) := by
  decide +kernel

theorem sc84_row0 : ∀ n : Fin 4, (S4.rowMajor.symm n 0).val = n.val := by
  decide +kernel

theorem sc84_row (n : Fin 4) : S4.rowMajor.symm n = ix1 n := by
  funext k
  obtain rfl : k = 0 := Subsingleton.elim _ _
  exact Fin.ext (sc84_row0 n)

theorem sc84 (x : FVec Ideal S128 .f32) (idx : IVec S1 32) (hidx : idx = fun _ => 84#32) (u : FVec Ideal S4 .f32) (j : Fin 128) :
    Host.scatter scatter_S128_S1_S4_0_n_0_0 (fun _ b => b) x idx u (ix1 j) = if h : 84 ≤ j.val ∧ j.val < 88 then u (ix1 ⟨j.val - 84, by omega⟩) else x (ix1 j) := by
  subst hidx
  obtain ⟨h1, h2⟩ := Cert.Reads.scatter_set scatter_S128_S1_S4_0_n_0_0 x (fun _ => 84#32) u
    (fun n : Fin 4 => ix1 (⟨84 + n.val, by omega⟩ : Fin 128))
    (fun a b e => Fin.ext (by have := congrArg (fun f => (f 0).val) e; dsimp only at this; change 84 + a.val = 84 + b.val at this; omega)) sc84_ix
  split
  · rename_i h
    have e : j = ⟨84 + (⟨j.val - 84, by omega⟩ : Fin 4).val, by dsimp only; omega⟩ := Fin.ext (by dsimp only; omega)
    rw [show (ix1 j : S128.Idx) = ix1 (⟨84 + (⟨j.val - 84, by omega⟩ : Fin 4).val, by dsimp only; omega⟩ : Fin 128) from congrArg _ e]
    exact (h2 (⟨j.val - 84, by omega⟩ : Fin 4)).trans (congrArg u (sc84_row _))
  · rename_i h
    refine h1 _ fun n e => h ?_
    have := congrArg (fun f => (f 0).val) e
    change 84 + n.val = j.val at this
    have : n.val < 4 := n.isLt
    omega

end Cert.Kernel5Ideal.Proj

end
-- ==== Proof.ProjRows.lean ====
/- What the projection's host lines leave in the arrays its kernel reads. -/
module

public import proofs.«01_k».proof.Proof.Gen.Kernel5Ideal.Frame
public import proofs.«01_k».proof.Proof.ProjScatter
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj

variable (m : (ℓ : Loc nD τ sig) → Buf (Elt Ideal) ℓ)

variable (c : Dev nD) (t : Fin cfg0.N)

theorem row0 (j : Fin 128) (h : j.val < 64) : V m c main_v67 (ix2 (⟨0, by decide⟩ : Fin 8) j) = (m ((c : Thread nD τ).loc main_arg4)) (ix1 ⟨j.val, h⟩) := by
  after_reads_simp
  pointwise
  after_reads_simp
  pointwise
  rw [sc0 _ (broadcastInDim S1 ![] bcast_S_S1 (constantI S_ 32 0#32)) (by funext k; rfl), dif_pos ⟨by omega, by omega⟩]
  rfl

theorem row1_m (j : Fin 128) (h : 72 ≤ j.val) (h' : j.val < 76) : V m c main_v67 (ix2 (⟨1, by decide⟩ : Fin 8) j) = (m ((c : Thread nD τ).loc main_arg5)) (ix1 ⟨j.val - 72, by omega⟩) := by
  after_reads_simp
  pointwise
  after_reads_simp
  pointwise
  rw [sc72 _ (broadcastInDim S1 ![] bcast_S_S1 (constantI S_ 32 72#32)) (by funext k; rfl), sc76 _ (broadcastInDim S1 ![] bcast_S_S1 (constantI S_ 32 76#32)) (by funext k; rfl), sc84 _ (broadcastInDim S1 ![] bcast_S_S1 (constantI S_ 32 84#32)) (by funext k; rfl), dif_pos ⟨by omega, by omega⟩, dif_neg (by omega), dif_neg (by omega)]
  pointwise

theorem row1_f (j : Fin 128) (h : 76 ≤ j.val) (h' : j.val < 80) : V m c main_v67 (ix2 (⟨1, by decide⟩ : Fin 8) j) = (m ((c : Thread nD τ).loc main_arg6)) (ix1 ⟨j.val - 76, by omega⟩) := by
  after_reads_simp
  pointwise
  after_reads_simp
  pointwise
  rw [sc72 _ (broadcastInDim S1 ![] bcast_S_S1 (constantI S_ 32 72#32)) (by funext k; rfl), sc76 _ (broadcastInDim S1 ![] bcast_S_S1 (constantI S_ 32 76#32)) (by funext k; rfl), sc84 _ (broadcastInDim S1 ![] bcast_S_S1 (constantI S_ 32 84#32)) (by funext k; rfl), dif_neg (by omega), dif_pos ⟨by omega, by omega⟩, dif_neg (by omega)]
  pointwise

theorem row1_g (j : Fin 128) (h : 84 ≤ j.val) (h' : j.val < 88) : V m c main_v67 (ix2 (⟨1, by decide⟩ : Fin 8) j) = (m ((c : Thread nD τ).loc main_arg8)) (ix1 ⟨j.val - 84, by omega⟩) := by
  after_reads_simp
  pointwise
  after_reads_simp
  pointwise
  rw [sc72 _ (broadcastInDim S1 ![] bcast_S_S1 (constantI S_ 32 72#32)) (by funext k; rfl), sc76 _ (broadcastInDim S1 ![] bcast_S_S1 (constantI S_ 32 76#32)) (by funext k; rfl), sc84 _ (broadcastInDim S1 ![] bcast_S_S1 (constantI S_ 32 84#32)) (by funext k; rfl), dif_neg (by omega), dif_neg (by omega), dif_pos ⟨by omega, by omega⟩]
  pointwise

theorem row2 (j : Fin 128) (h : 84 ≤ j.val) (h' : j.val < 88) : V m c main_v67 (ix2 (⟨2, by decide⟩ : Fin 8) j) = (m ((c : Thread nD τ).loc main_arg7)) (ix1 ⟨j.val - 84, by omega⟩) := by
  after_reads_simp
  pointwise
  after_reads_simp
  pointwise
  rw [sc84 _ (broadcastInDim S1 ![] bcast_S_S1 (constantI S_ 32 84#32)) (by funext k; rfl), dif_pos ⟨by omega, by omega⟩]

theorem sp_at (i : Fin 8) (j : Fin 128) : iblk m c 6 t (ix2 i j) = V m c main_v67 (ix2 i j) := by
  blk_ext [iblk, idx t]

end Cert.Kernel5Ideal.Proj

end
-- ==== Proof.ProjNarrow.lean ====
/- What the projection's host lines leave in the arrays its kernel reads. -/
module

public import proofs.«01_k».proof.Proof.Gen.Kernel5Ideal.Frame
public import proofs.«01_k».proof.Proof.ProjRope
public import proofs.«01_k».proof.Proof.ProjRows
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Proj

variable (m : (ℓ : Loc nD τ sig) → Buf (Elt Ideal) ℓ)

/-- The smooth maximum of a number and zero, as both programs write it. -/
def soft (x : EReal) : EReal := if x ≠ x then x else max x 0 + Ideal.log1p (Ideal.exp (-(FloatOps.absf (F := Ideal) (φ := .f32) x)))

theorem logistic_eq (x : EReal) : Ideal.logistic x = Ideal.div 1 (1 + Ideal.exp (-x)) := rfl

theorem cmp64 : ∀ j : Fin 128, IntOp.cmpi .slt (BitVec.ofNat 32 j.val) 64#32 = if j.val < 64 then 1#1 else 0#1 := by
  decide +kernel

theorem sel64 (j : Fin 128) (a b : EReal) :
    Scalar.select (IntOp.cmpi .slt (BitVec.ofNat 32 j.val) 64#32) a b = if j.val < 64 then a else b := by
  rw [cmp64]
  split <;> rfl

theorem cmp72 : ∀ j : Fin 128, IntOp.cmpi .slt (BitVec.ofNat 32 j.val) 72#32 = if j.val < 72 then 1#1 else 0#1 := by
  decide +kernel

theorem sel72 (j : Fin 128) (a b : EReal) :
    Scalar.select (IntOp.cmpi .slt (BitVec.ofNat 32 j.val) 72#32) a b = if j.val < 72 then a else b := by
  rw [cmp72]
  split <;> rfl

theorem cmp76 : ∀ j : Fin 128, IntOp.cmpi .slt (BitVec.ofNat 32 j.val) 76#32 = if j.val < 76 then 1#1 else 0#1 := by
  decide +kernel

theorem sel76 (j : Fin 128) (a b : EReal) :
    Scalar.select (IntOp.cmpi .slt (BitVec.ofNat 32 j.val) 76#32) a b = if j.val < 76 then a else b := by
  rw [cmp76]
  split <;> rfl

theorem cmp80 : ∀ j : Fin 128, IntOp.cmpi .slt (BitVec.ofNat 32 j.val) 80#32 = if j.val < 80 then 1#1 else 0#1 := by
  decide +kernel

theorem sel80 (j : Fin 128) (a b : EReal) :
    Scalar.select (IntOp.cmpi .slt (BitVec.ofNat 32 j.val) 80#32) a b = if j.val < 80 then a else b := by
  rw [cmp80]
  split <;> rfl

theorem cmp84 : ∀ j : Fin 128, IntOp.cmpi .slt (BitVec.ofNat 32 j.val) 84#32 = if j.val < 84 then 1#1 else 0#1 := by
  decide +kernel

theorem sel84 (j : Fin 128) (a b : EReal) :
    Scalar.select (IntOp.cmpi .slt (BitVec.ofNat 32 j.val) 84#32) a b = if j.val < 84 then a else b := by
  rw [cmp84]
  split <;> rfl

theorem cmp88 : ∀ j : Fin 128, IntOp.cmpi .slt (BitVec.ofNat 32 j.val) 88#32 = if j.val < 88 then 1#1 else 0#1 := by
  decide +kernel

theorem sel88 (j : Fin 128) (a b : EReal) :
    Scalar.select (IntOp.cmpi .slt (BitVec.ofNat 32 j.val) 88#32) a b = if j.val < 88 then a else b := by
  rw [cmp88]
  split <;> rfl

theorem n0 (zs x3 x4 x5 : FVec Ideal S256x128 .f32) (s0 s1 s2 : FVec Ideal S1x128 .f32) (r : Fin 256) (j : Fin 128) (h : 0 ≤ j.val) (h' : j.val < 64) : k0_pay37 zs (iota Kind.tc S256x128 32 [1] iota_S256x128_d1_w32) (k0_pay25 s2) (k0_pay26 (k0_pay5 x3) (k0_pay6 x4) (k0_pay7 x5) zs (iota Kind.tc S256x128 32 [1] iota_S256x128_d1_w32) (k0_pay23 s0)) (k0_pay27 zs (k0_pay24 s1)) (k0_pay28 (iota Kind.tc S256x128 32 [1] iota_S256x128_d1_w32)) (k0_pay29 (iota Kind.tc S256x128 32 [1] iota_S256x128_d1_w32)) (k0_pay30 zs) (k0_pay31 (iota Kind.tc S256x128 32 [1] iota_S256x128_d1_w32)) (k0_pay32 (iota Kind.tc S256x128 32 [1] iota_S256x128_d1_w32)) (k0_pay33 zs (k0_pay24 s1)) (FloatOps.ofBits FTy.f32 0#32) (k0_pay34 zs (k0_pay24 s1)) (k0_pay35 zs (k0_pay24 s1)) (k0_pay36 zs (k0_pay24 s1)) (ix2 r j) = (k0_pay26 (k0_pay5 x3) (k0_pay6 x4) (k0_pay7 x5) zs (iota Kind.tc S256x128 32 [1] iota_S256x128_d1_w32) (k0_pay23 s0) (ix2 r j) : EReal) := by
  pointwise [k0_pay37, k0_pay28, k0_pay29, k0_pay31, k0_pay32, k0_pay27, k0_pay30, k0_pay33, k0_pay34, k0_pay35, k0_pay36, k0_pay24, k0_pay25]
  rw [sel64, if_pos h']

theorem n1 (zs x3 x4 x5 : FVec Ideal S256x128 .f32) (s0 s1 s2 : FVec Ideal S1x128 .f32) (r : Fin 256) (j : Fin 128) (h : 64 ≤ j.val) (h' : j.val < 72) : k0_pay37 zs (iota Kind.tc S256x128 32 [1] iota_S256x128_d1_w32) (k0_pay25 s2) (k0_pay26 (k0_pay5 x3) (k0_pay6 x4) (k0_pay7 x5) zs (iota Kind.tc S256x128 32 [1] iota_S256x128_d1_w32) (k0_pay23 s0)) (k0_pay27 zs (k0_pay24 s1)) (k0_pay28 (iota Kind.tc S256x128 32 [1] iota_S256x128_d1_w32)) (k0_pay29 (iota Kind.tc S256x128 32 [1] iota_S256x128_d1_w32)) (k0_pay30 zs) (k0_pay31 (iota Kind.tc S256x128 32 [1] iota_S256x128_d1_w32)) (k0_pay32 (iota Kind.tc S256x128 32 [1] iota_S256x128_d1_w32)) (k0_pay33 zs (k0_pay24 s1)) (FloatOps.ofBits FTy.f32 0#32) (k0_pay34 zs (k0_pay24 s1)) (k0_pay35 zs (k0_pay24 s1)) (k0_pay36 zs (k0_pay24 s1)) (ix2 r j) = (zs (ix2 r j) * Ideal.ofBits .f32 0x3EB504F3#32 : EReal) := by
  pointwise [k0_pay37, k0_pay28, k0_pay29, k0_pay31, k0_pay32, k0_pay27, k0_pay30, k0_pay33, k0_pay34, k0_pay35, k0_pay36, k0_pay24, k0_pay25]
  rw [sel64, sel72, if_neg (by omega), if_pos h']

theorem n2 (zs x3 x4 x5 : FVec Ideal S256x128 .f32) (s0 s1 s2 : FVec Ideal S1x128 .f32) (r : Fin 256) (j : Fin 128) (h : 72 ≤ j.val) (h' : j.val < 76) : k0_pay37 zs (iota Kind.tc S256x128 32 [1] iota_S256x128_d1_w32) (k0_pay25 s2) (k0_pay26 (k0_pay5 x3) (k0_pay6 x4) (k0_pay7 x5) zs (iota Kind.tc S256x128 32 [1] iota_S256x128_d1_w32) (k0_pay23 s0)) (k0_pay27 zs (k0_pay24 s1)) (k0_pay28 (iota Kind.tc S256x128 32 [1] iota_S256x128_d1_w32)) (k0_pay29 (iota Kind.tc S256x128 32 [1] iota_S256x128_d1_w32)) (k0_pay30 zs) (k0_pay31 (iota Kind.tc S256x128 32 [1] iota_S256x128_d1_w32)) (k0_pay32 (iota Kind.tc S256x128 32 [1] iota_S256x128_d1_w32)) (k0_pay33 zs (k0_pay24 s1)) (FloatOps.ofBits FTy.f32 0#32) (k0_pay34 zs (k0_pay24 s1)) (k0_pay35 zs (k0_pay24 s1)) (k0_pay36 zs (k0_pay24 s1)) (ix2 r j) = (zs (ix2 r j) + s1 (ix2 0 j) : EReal) := by
  pointwise [k0_pay37, k0_pay28, k0_pay29, k0_pay31, k0_pay32, k0_pay27, k0_pay30, k0_pay33, k0_pay34, k0_pay35, k0_pay36, k0_pay24, k0_pay25]
  rw [sel64, sel72, sel76, if_neg (by omega), if_neg (by omega), if_pos h']

theorem n3 (zs x3 x4 x5 : FVec Ideal S256x128 .f32) (s0 s1 s2 : FVec Ideal S1x128 .f32) (r : Fin 256) (j : Fin 128) (h : 76 ≤ j.val) (h' : j.val < 80) : k0_pay37 zs (iota Kind.tc S256x128 32 [1] iota_S256x128_d1_w32) (k0_pay25 s2) (k0_pay26 (k0_pay5 x3) (k0_pay6 x4) (k0_pay7 x5) zs (iota Kind.tc S256x128 32 [1] iota_S256x128_d1_w32) (k0_pay23 s0)) (k0_pay27 zs (k0_pay24 s1)) (k0_pay28 (iota Kind.tc S256x128 32 [1] iota_S256x128_d1_w32)) (k0_pay29 (iota Kind.tc S256x128 32 [1] iota_S256x128_d1_w32)) (k0_pay30 zs) (k0_pay31 (iota Kind.tc S256x128 32 [1] iota_S256x128_d1_w32)) (k0_pay32 (iota Kind.tc S256x128 32 [1] iota_S256x128_d1_w32)) (k0_pay33 zs (k0_pay24 s1)) (FloatOps.ofBits FTy.f32 0#32) (k0_pay34 zs (k0_pay24 s1)) (k0_pay35 zs (k0_pay24 s1)) (k0_pay36 zs (k0_pay24 s1)) (ix2 r j) = (-(soft (-(zs (ix2 r j) + s1 (ix2 0 j)))) : EReal) := by
  pointwise [k0_pay37, k0_pay28, k0_pay29, k0_pay31, k0_pay32, k0_pay27, k0_pay30, k0_pay33, k0_pay34, k0_pay35, k0_pay36, k0_pay24, k0_pay25]
  rw [sel64, sel72, sel76, sel80, if_neg (by omega), if_neg (by omega), if_neg (by omega), if_pos h']
  simp only [zero_sub]
  rfl

theorem n4 (zs x3 x4 x5 : FVec Ideal S256x128 .f32) (s0 s1 s2 : FVec Ideal S1x128 .f32) (r : Fin 256) (j : Fin 128) (h : 80 ≤ j.val) (h' : j.val < 84) : k0_pay37 zs (iota Kind.tc S256x128 32 [1] iota_S256x128_d1_w32) (k0_pay25 s2) (k0_pay26 (k0_pay5 x3) (k0_pay6 x4) (k0_pay7 x5) zs (iota Kind.tc S256x128 32 [1] iota_S256x128_d1_w32) (k0_pay23 s0)) (k0_pay27 zs (k0_pay24 s1)) (k0_pay28 (iota Kind.tc S256x128 32 [1] iota_S256x128_d1_w32)) (k0_pay29 (iota Kind.tc S256x128 32 [1] iota_S256x128_d1_w32)) (k0_pay30 zs) (k0_pay31 (iota Kind.tc S256x128 32 [1] iota_S256x128_d1_w32)) (k0_pay32 (iota Kind.tc S256x128 32 [1] iota_S256x128_d1_w32)) (k0_pay33 zs (k0_pay24 s1)) (FloatOps.ofBits FTy.f32 0#32) (k0_pay34 zs (k0_pay24 s1)) (k0_pay35 zs (k0_pay24 s1)) (k0_pay36 zs (k0_pay24 s1)) (ix2 r j) = (Ideal.div 1 (1 + Ideal.exp (-(zs (ix2 r j)))) : EReal) := by
  pointwise [k0_pay37, k0_pay28, k0_pay29, k0_pay31, k0_pay32, k0_pay27, k0_pay30, k0_pay33, k0_pay34, k0_pay35, k0_pay36, k0_pay24, k0_pay25]
  rw [sel64, sel72, sel76, sel80, sel84, if_neg (by omega), if_neg (by omega), if_neg (by omega), if_neg (by omega), if_pos h']
  exact logistic_eq _

theorem n5 (zs x3 x4 x5 : FVec Ideal S256x128 .f32) (s0 s1 s2 : FVec Ideal S1x128 .f32) (r : Fin 256) (j : Fin 128) (h : 84 ≤ j.val) (h' : j.val < 88) : k0_pay37 zs (iota Kind.tc S256x128 32 [1] iota_S256x128_d1_w32) (k0_pay25 s2) (k0_pay26 (k0_pay5 x3) (k0_pay6 x4) (k0_pay7 x5) zs (iota Kind.tc S256x128 32 [1] iota_S256x128_d1_w32) (k0_pay23 s0)) (k0_pay27 zs (k0_pay24 s1)) (k0_pay28 (iota Kind.tc S256x128 32 [1] iota_S256x128_d1_w32)) (k0_pay29 (iota Kind.tc S256x128 32 [1] iota_S256x128_d1_w32)) (k0_pay30 zs) (k0_pay31 (iota Kind.tc S256x128 32 [1] iota_S256x128_d1_w32)) (k0_pay32 (iota Kind.tc S256x128 32 [1] iota_S256x128_d1_w32)) (k0_pay33 zs (k0_pay24 s1)) (FloatOps.ofBits FTy.f32 0#32) (k0_pay34 zs (k0_pay24 s1)) (k0_pay35 zs (k0_pay24 s1)) (k0_pay36 zs (k0_pay24 s1)) (ix2 r j) = (-(Ideal.exp (s2 (ix2 0 j))) * soft (zs (ix2 r j) + s1 (ix2 0 j)) : EReal) := by
  pointwise [k0_pay37, k0_pay28, k0_pay29, k0_pay31, k0_pay32, k0_pay27, k0_pay30, k0_pay33, k0_pay34, k0_pay35, k0_pay36, k0_pay24, k0_pay25]
  rw [sel64, sel72, sel76, sel80, sel84, sel88, if_neg (by omega), if_neg (by omega), if_neg (by omega), if_neg (by omega), if_neg (by omega), if_pos h']
  simp only [zero_sub]
  rfl

theorem n6 (zs x3 x4 x5 : FVec Ideal S256x128 .f32) (s0 s1 s2 : FVec Ideal S1x128 .f32) (r : Fin 256) (j : Fin 128) (h : 88 ≤ j.val) (h' : j.val < 128) : k0_pay37 zs (iota Kind.tc S256x128 32 [1] iota_S256x128_d1_w32) (k0_pay25 s2) (k0_pay26 (k0_pay5 x3) (k0_pay6 x4) (k0_pay7 x5) zs (iota Kind.tc S256x128 32 [1] iota_S256x128_d1_w32) (k0_pay23 s0)) (k0_pay27 zs (k0_pay24 s1)) (k0_pay28 (iota Kind.tc S256x128 32 [1] iota_S256x128_d1_w32)) (k0_pay29 (iota Kind.tc S256x128 32 [1] iota_S256x128_d1_w32)) (k0_pay30 zs) (k0_pay31 (iota Kind.tc S256x128 32 [1] iota_S256x128_d1_w32)) (k0_pay32 (iota Kind.tc S256x128 32 [1] iota_S256x128_d1_w32)) (k0_pay33 zs (k0_pay24 s1)) (FloatOps.ofBits FTy.f32 0#32) (k0_pay34 zs (k0_pay24 s1)) (k0_pay35 zs (k0_pay24 s1)) (k0_pay36 zs (k0_pay24 s1)) (ix2 r j) = (0 : EReal) := by
  pointwise [k0_pay37, k0_pay28, k0_pay29, k0_pay31, k0_pay32, k0_pay27, k0_pay30, k0_pay33, k0_pay34, k0_pay35, k0_pay36, k0_pay24, k0_pay25]
  rw [sel64, sel72, sel76, sel80, sel84, sel88, if_neg (by omega), if_neg (by omega), if_neg (by omega), if_neg (by omega), if_neg (by omega), if_neg (by omega)]

variable (c : Dev nD) (t : Fin cfg0.N)

theorem rr1 (i : Fin 16640) (j : Fin 128) (J : Fin 8536) (hJ : J.val = 1280 + j.val) (h : 64 ≤ j.val) (h' : j.val < 72) :
    out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) = (r_v13 (m ((c : Thread nD τ).loc main_arg0)) (m ((c : Thread nD τ).loc main_arg1)) (m ((c : Thread nD τ).loc main_arg2)) (ix2 i J) * Ideal.ofBits .f32 0x3EB504F3#32 : EReal) := by
  obtain rfl : J = ⟨1344 + (j.val - 64), by clear hJ; omega⟩ := Fin.ext (hJ.trans (by dsimp only; omega))
  pointwise [out_v190, r_zeros, r_call0_v0, r_call0_call0_v3, r_call0_call0_cst, r_v184, r_call1_v3, r_call1_cst]
  rw [dif_neg (by omega), dif_pos (by omega)]

theorem rr2 (i : Fin 16640) (j : Fin 128) (J : Fin 8536) (hJ : J.val = 2048 + j.val) (h : 72 ≤ j.val) (h' : j.val < 76) :
    out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) = (r_v13 (m ((c : Thread nD τ).loc main_arg0)) (m ((c : Thread nD τ).loc main_arg1)) (m ((c : Thread nD τ).loc main_arg2)) (ix2 i J) + (m ((c : Thread nD τ).loc main_arg5)) (ix1 ⟨j.val - 72, by omega⟩) : EReal) := by
  obtain rfl : J = ⟨2120 + (j.val - 64 - 8), by clear hJ; omega⟩ := Fin.ext (hJ.trans (by dsimp only; omega))
  pointwise [out_v190, r_zeros, r_call0_v0, r_call0_call0_v3, r_call0_call0_cst, r_v184, r_call1_v3, r_call1_cst]
  rw [dif_neg (by omega), dif_neg (by omega), dif_pos (by omega)]
  simp only [Nat.sub_sub, Nat.reduceAdd]

theorem rr3 (i : Fin 16640) (j : Fin 128) (J : Fin 8536) (hJ : J.val = 2048 + j.val) (h : 76 ≤ j.val) (h' : j.val < 80) :
    out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) = (-(soft (-(r_v13 (m ((c : Thread nD τ).loc main_arg0)) (m ((c : Thread nD τ).loc main_arg1)) (m ((c : Thread nD τ).loc main_arg2)) (ix2 i J) + (m ((c : Thread nD τ).loc main_arg6)) (ix1 ⟨j.val - 76, by omega⟩)))) : EReal) := by
  obtain rfl : J = ⟨2124 + (j.val - 64 - 8 - 4), by clear hJ; omega⟩ := Fin.ext (hJ.trans (by dsimp only; omega))
  pointwise [out_v190, r_zeros, r_call0_v0, r_call0_call0_v3, r_call0_call0_cst, r_v184, r_call1_v3, r_call1_cst]
  rw [dif_neg (by omega), dif_neg (by omega), dif_neg (by omega), dif_pos (by omega)]
  simp only [Nat.sub_sub, Nat.reduceAdd]
  rfl

theorem rr4 (i : Fin 16640) (j : Fin 128) (J : Fin 8536) (hJ : J.val = 4096 + j.val) (h : 80 ≤ j.val) (h' : j.val < 84) :
    out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) = (Ideal.div 1 (1 + Ideal.exp (-(r_v13 (m ((c : Thread nD τ).loc main_arg0)) (m ((c : Thread nD τ).loc main_arg1)) (m ((c : Thread nD τ).loc main_arg2)) (ix2 i J)))) : EReal) := by
  obtain rfl : J = ⟨4176 + (j.val - 64 - 8 - 4 - 4), by clear hJ; omega⟩ := Fin.ext (hJ.trans (by dsimp only; omega))
  pointwise [out_v190, r_zeros, r_call0_v0, r_call0_call0_v3, r_call0_call0_cst, r_v184, r_call1_v3, r_call1_cst]
  rw [dif_neg (by omega), dif_neg (by omega), dif_neg (by omega), dif_neg (by omega), dif_pos (by omega)]

theorem rr5 (i : Fin 16640) (j : Fin 128) (J : Fin 8536) (hJ : J.val = 4096 + j.val) (h : 84 ≤ j.val) (h' : j.val < 88) :
    out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) = (-(Ideal.exp ((m ((c : Thread nD τ).loc main_arg7)) (ix1 ⟨j.val - 84, by omega⟩))) * soft (r_v13 (m ((c : Thread nD τ).loc main_arg0)) (m ((c : Thread nD τ).loc main_arg1)) (m ((c : Thread nD τ).loc main_arg2)) (ix2 i J) + (m ((c : Thread nD τ).loc main_arg8)) (ix1 ⟨j.val - 84, by omega⟩)) : EReal) := by
  obtain rfl : J = ⟨4180 + (j.val - 64 - 8 - 4 - 4 - 4), by clear hJ; omega⟩ := Fin.ext (hJ.trans (by dsimp only; omega))
  pointwise [out_v190, r_zeros, r_call0_v0, r_call0_call0_v3, r_call0_call0_cst, r_v184, r_call1_v3, r_call1_cst]
  rw [dif_neg (by omega), dif_neg (by omega), dif_neg (by omega), dif_neg (by omega), dif_neg (by omega), dif_pos (by omega)]
  simp only [Nat.sub_sub, Nat.reduceAdd]
  rfl

theorem rr6 (i : Fin 16640) (j : Fin 128) (h : 88 ≤ j.val) (h' : j.val < 128) :
    out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) = (0 : EReal) := by
  pointwise [out_v190, r_zeros, r_call0_v0, r_call0_call0_v3, r_call0_call0_cst, r_v184, r_call1_v3, r_call1_cst]
  rw [dif_neg (by omega), dif_neg (by omega), dif_neg (by omega), dif_neg (by omega), dif_neg (by omega), dif_neg (by omega)]

/-- The mean of squares under the root, in both its forms. -/
theorem inv64 (x : EReal) : x * Ideal.ofBits .f32 0x3C800000#32 = Ideal.div x (Ideal.ofBits .f32 0x42800000#32) := by
  have e1 : Ideal.ofBits .f32 0x3C800000#32 = ((1 / 64 : ℝ) : EReal) := by simp [Ideal.ofBits, Ideal.ieee, -EReal.coe_mul]; norm_num
  have e2 : Ideal.ofBits .f32 0x42800000#32 = ((64 : ℝ) : EReal) := by simp [Ideal.ofBits, Ideal.ieee, -EReal.coe_mul]; norm_num
  rw [e1, e2, Ideal.div_coe (by norm_num)]

theorem sum64 (f : Fin 128 → EReal) :
    (∑ x : Fin 128, Scalar.select (IntOp.cmpi .slt (BitVec.ofNat 32 x.val) 64#32) (f x) 0) = ∑ k : Fin 64, f ⟨k.val, by omega⟩ := by
  simp only [sel64]
  refine (Fin.sum_univ_add (a := 64) (b := 64) (fun x : Fin (64 + 64) => if x.val < 64 then f x else 0)).trans ?_
  rw [Finset.sum_eq_zero (s := Finset.univ) (f := fun q : Fin 64 => if (Fin.natAdd 64 q).val < 64 then f (Fin.natAdd 64 q) else 0) (fun q _ => if_neg (by simp)), add_zero]
  refine Finset.sum_congr rfl fun k _ => ?_
  rw [if_pos (by simp)]
  rfl

/-- The normalised index keys of the reference. -/
theorem key_at (i : Fin 16640) (k : Fin 64) : r_v138 (m ((c : Thread nD τ).loc main_arg0)) (m ((c : Thread nD τ).loc main_arg1)) (m ((c : Thread nD τ).loc main_arg2)) (m ((c : Thread nD τ).loc main_arg4)) (ix3 i 0 k)
    = r_v13 (m ((c : Thread nD τ).loc main_arg0)) (m ((c : Thread nD τ).loc main_arg1)) (m ((c : Thread nD τ).loc main_arg2)) (ix2 i ⟨1280 + k.val, by omega⟩) * Ideal.rsqrt (Ideal.div (∑ x : Fin 64, r_v13 (m ((c : Thread nD τ).loc main_arg0)) (m ((c : Thread nD τ).loc main_arg1)) (m ((c : Thread nD τ).loc main_arg2)) (ix2 i ⟨1280 + x.val, by omega⟩) * r_v13 (m ((c : Thread nD τ).loc main_arg0)) (m ((c : Thread nD τ).loc main_arg1)) (m ((c : Thread nD τ).loc main_arg2)) (ix2 i ⟨1280 + x.val, by omega⟩)) (Ideal.ofBits .f32 0x42800000#32) + Ideal.ofBits .f32 0x358637BD#32) * (m ((c : Thread nD τ).loc main_arg4)) (ix1 k) := by
  pointwise [r_v138, r_v18]

/-- The kernel's normalised index keys before their rotation. -/
theorem nkey (zs : FVec Ideal S256x128 .f32) (s0 : FVec Ideal S1x128 .f32) (r : Fin 256) (i : Fin 16640)
    (hz : ∀ j : Fin 128, (h : j.val < 64) → zs (ix2 r j) = r_v13 (m ((c : Thread nD τ).loc main_arg0)) (m ((c : Thread nD τ).loc main_arg1)) (m ((c : Thread nD τ).loc main_arg2)) (ix2 i ⟨1280 + j.val, by omega⟩))
    (hs : ∀ j : Fin 128, (h : j.val < 64) → s0 (ix2 0 j) = (m ((c : Thread nD τ).loc main_arg4)) (ix1 ⟨j.val, h⟩))
    (j : Fin 128) (k : Fin 64) (hk : j.val = k.val) :
    (zs (ix2 r j) * Ideal.rsqrt ((∑ x : Fin 128, Scalar.select (IntOp.cmpi .slt (BitVec.ofNat 32 x.val) 64#32) (zs (ix2 r x) * zs (ix2 r x)) 0) * Ideal.ofBits .f32 0x3C800000#32 + Ideal.ofBits .f32 0x358637BD#32) * s0 (ix2 0 j) : EReal)
      = r_v138 (m ((c : Thread nD τ).loc main_arg0)) (m ((c : Thread nD τ).loc main_arg1)) (m ((c : Thread nD τ).loc main_arg2)) (m ((c : Thread nD τ).loc main_arg4)) (ix3 i 0 k) := by
  obtain rfl : j = ⟨k.val, by clear hk; omega⟩ := Fin.ext hk
  have e := sum64 (fun x => zs (ix2 r x) * zs (ix2 r x))
  rw [key_at, inv64, e, hz _ k.isLt, hs _ k.isLt]
  have e2 : ∀ q : Fin 64, zs (ix2 r ⟨q.val, by omega⟩) = r_v13 (m ((c : Thread nD τ).loc main_arg0)) (m ((c : Thread nD τ).loc main_arg1)) (m ((c : Thread nD τ).loc main_arg2)) (ix2 i ⟨1280 + q.val, by omega⟩) := fun q => hz _ q.isLt
  simp only [e2]

theorem key_rot (zs x3 x4 x5 : FVec Ideal S256x128 .f32) (s0 : FVec Ideal S1x128 .f32) (r : Fin 256) (i : Fin 16640)
    (hz : ∀ j : Fin 128, (h : j.val < 64) → zs (ix2 r j) = r_v13 (m ((c : Thread nD τ).loc main_arg0)) (m ((c : Thread nD τ).loc main_arg1)) (m ((c : Thread nD τ).loc main_arg2)) (ix2 i ⟨1280 + j.val, by omega⟩))
    (hs : ∀ j : Fin 128, (h : j.val < 64) → s0 (ix2 0 j) = (m ((c : Thread nD τ).loc main_arg4)) (ix1 ⟨j.val, h⟩)) (j : Fin 128) :
    ∃ K : Fin 128 → EReal, (k0_pay26 (k0_pay5 x3) (k0_pay6 x4) (k0_pay7 x5) zs (iota Kind.tc S256x128 32 [1] iota_S256x128_d1_w32) (k0_pay23 s0) (ix2 r j) = (K j * x3 (ix2 r j) + K ⟨(j.val + 128 - 96) % 128, Nat.mod_lt _ (by decide)⟩ * x4 (ix2 r j) + K ⟨(j.val + 128 - 32) % 128, Nat.mod_lt _ (by decide)⟩ * x5 (ix2 r j) : EReal))
      ∧ ∀ (q : Fin 128) (k : Fin 64), q.val = k.val → K q = r_v138 (m ((c : Thread nD τ).loc main_arg0)) (m ((c : Thread nD τ).loc main_arg1)) (m ((c : Thread nD τ).loc main_arg2)) (m ((c : Thread nD τ).loc main_arg4)) (ix3 i 0 k) := by
  refine ⟨_, ?_, fun q k hk => nkey m c zs s0 r i hz hs q k hk⟩
  pointwise [k0_pay26, k0_pay23, k0_pay5, k0_pay6, k0_pay7]

theorem rr0_lo (i : Fin 16640) (j : Fin 128) (h : j.val < 32) :
    out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) = (r_v138 (m ((c : Thread nD τ).loc main_arg0)) (m ((c : Thread nD τ).loc main_arg1)) (m ((c : Thread nD τ).loc main_arg2)) (m ((c : Thread nD τ).loc main_arg4)) (ix3 i 0 ⟨j.val, by omega⟩) * Ideal.cos (r_v44 (m ((c : Thread nD τ).loc main_arg3)) (ix2 i ⟨j.val, by omega⟩)) - r_v138 (m ((c : Thread nD τ).loc main_arg0)) (m ((c : Thread nD τ).loc main_arg1)) (m ((c : Thread nD τ).loc main_arg2)) (m ((c : Thread nD τ).loc main_arg4)) (ix3 i 0 ⟨32 + j.val, by omega⟩) * Ideal.sin (r_v44 (m ((c : Thread nD τ).loc main_arg3)) (ix2 i ⟨j.val, by omega⟩)) : EReal) := by
  pointwise [out_v190, r_v155, r_v156, r_v152, r_v154, ang150]
  rw [dif_pos (by omega), dif_pos (by omega)]

theorem rr0_hi (i : Fin 16640) (j : Fin 128) (h : 32 ≤ j.val) (h' : j.val < 64) :
    out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) = (r_v138 (m ((c : Thread nD τ).loc main_arg0)) (m ((c : Thread nD τ).loc main_arg1)) (m ((c : Thread nD τ).loc main_arg2)) (m ((c : Thread nD τ).loc main_arg4)) (ix3 i 0 ⟨j.val, by omega⟩) * Ideal.cos (r_v44 (m ((c : Thread nD τ).loc main_arg3)) (ix2 i ⟨j.val - 32, by omega⟩)) + r_v138 (m ((c : Thread nD τ).loc main_arg0)) (m ((c : Thread nD τ).loc main_arg1)) (m ((c : Thread nD τ).loc main_arg2)) (m ((c : Thread nD τ).loc main_arg4)) (ix3 i 0 ⟨j.val - 32, by omega⟩) * Ideal.sin (r_v44 (m ((c : Thread nD τ).loc main_arg3)) (ix2 i ⟨j.val - 32, by omega⟩)) : EReal) := by
  pointwise [out_v190, r_v155, r_v156, r_v152, r_v154, ang150]
  rw [dif_pos (by omega), dif_neg (by omega)]
  simp only [show 32 + (j.val - 32) = j.val by omega]

theorem ld0 (j : Fin 128) : (View.ld (iblk m c 6 t) (Rect.unit ![0, 0] ![1, 128] inb_S8x128_S1x128_0_0)) (ix2 0 j) = V m c main_v67 (ix2 (⟨0, by decide⟩ : Fin 8) j) := by
  pointwise
  exact sp_at m c t _ _

theorem ld1 (j : Fin 128) : (View.ld (iblk m c 6 t) (Rect.unit ![1, 0] ![1, 128] inb_S8x128_S1x128_1_0)) (ix2 0 j) = V m c main_v67 (ix2 (⟨1, by decide⟩ : Fin 8) j) := by
  pointwise
  exact sp_at m c t _ _

theorem ld2 (j : Fin 128) : (View.ld (iblk m c 6 t) (Rect.unit ![2, 0] ![1, 128] inb_S8x128_S1x128_2_0)) (ix2 0 j) = V m c main_v67 (ix2 (⟨2, by decide⟩ : Fin 8) j) := by
  pointwise
  exact sp_at m c t _ _

theorem narrow (r : Fin 256) (i : Fin 16640) (hi : i.val = 256 * t.val + r.val) (j : Fin 128) :
    k0_pay37 (k0_pay22 (k0_pay4 (iblk m c 0 t) (iblk m c 1 t)) (View.ld (iblk m c 2 t) (Rect.unit ![0, 1280] ![1024, 128] inb_S1024x8576_S1024x128_0_1280))) (iota Kind.tc S256x128 32 [1] iota_S256x128_d1_w32) (k0_pay25 (View.ld (iblk m c 6 t) (Rect.unit ![2, 0] ![1, 128] inb_S8x128_S1x128_2_0))) (k0_pay26 (k0_pay5 (iblk m c 3 t)) (k0_pay6 (iblk m c 4 t)) (k0_pay7 (iblk m c 5 t)) (k0_pay22 (k0_pay4 (iblk m c 0 t) (iblk m c 1 t)) (View.ld (iblk m c 2 t) (Rect.unit ![0, 1280] ![1024, 128] inb_S1024x8576_S1024x128_0_1280))) (iota Kind.tc S256x128 32 [1] iota_S256x128_d1_w32) (k0_pay23 (View.ld (iblk m c 6 t) (Rect.unit ![0, 0] ![1, 128] inb_S8x128_S1x128_0_0)))) (k0_pay27 (k0_pay22 (k0_pay4 (iblk m c 0 t) (iblk m c 1 t)) (View.ld (iblk m c 2 t) (Rect.unit ![0, 1280] ![1024, 128] inb_S1024x8576_S1024x128_0_1280))) (k0_pay24 (View.ld (iblk m c 6 t) (Rect.unit ![1, 0] ![1, 128] inb_S8x128_S1x128_1_0)))) (k0_pay28 (iota Kind.tc S256x128 32 [1] iota_S256x128_d1_w32)) (k0_pay29 (iota Kind.tc S256x128 32 [1] iota_S256x128_d1_w32)) (k0_pay30 (k0_pay22 (k0_pay4 (iblk m c 0 t) (iblk m c 1 t)) (View.ld (iblk m c 2 t) (Rect.unit ![0, 1280] ![1024, 128] inb_S1024x8576_S1024x128_0_1280)))) (k0_pay31 (iota Kind.tc S256x128 32 [1] iota_S256x128_d1_w32)) (k0_pay32 (iota Kind.tc S256x128 32 [1] iota_S256x128_d1_w32)) (k0_pay33 (k0_pay22 (k0_pay4 (iblk m c 0 t) (iblk m c 1 t)) (View.ld (iblk m c 2 t) (Rect.unit ![0, 1280] ![1024, 128] inb_S1024x8576_S1024x128_0_1280))) (k0_pay24 (View.ld (iblk m c 6 t) (Rect.unit ![1, 0] ![1, 128] inb_S8x128_S1x128_1_0)))) (FloatOps.ofBits FTy.f32 0#32) (k0_pay34 (k0_pay22 (k0_pay4 (iblk m c 0 t) (iblk m c 1 t)) (View.ld (iblk m c 2 t) (Rect.unit ![0, 1280] ![1024, 128] inb_S1024x8576_S1024x128_0_1280))) (k0_pay24 (View.ld (iblk m c 6 t) (Rect.unit ![1, 0] ![1, 128] inb_S8x128_S1x128_1_0)))) (k0_pay35 (k0_pay22 (k0_pay4 (iblk m c 0 t) (iblk m c 1 t)) (View.ld (iblk m c 2 t) (Rect.unit ![0, 1280] ![1024, 128] inb_S1024x8576_S1024x128_0_1280))) (k0_pay24 (View.ld (iblk m c 6 t) (Rect.unit ![1, 0] ![1, 128] inb_S8x128_S1x128_1_0)))) (k0_pay36 (k0_pay22 (k0_pay4 (iblk m c 0 t) (iblk m c 1 t)) (View.ld (iblk m c 2 t) (Rect.unit ![0, 1280] ![1024, 128] inb_S1024x8576_S1024x128_0_1280))) (k0_pay24 (View.ld (iblk m c 6 t) (Rect.unit ![1, 0] ![1, 128] inb_S8x128_S1x128_1_0)))) (ix2 r j) = out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i j) := by
  by_cases h0 : j.val < 64
  · refine (n0 (k0_pay22 (k0_pay4 (iblk m c 0 t) (iblk m c 1 t)) (View.ld (iblk m c 2 t) (Rect.unit ![0, 1280] ![1024, 128] inb_S1024x8576_S1024x128_0_1280))) (iblk m c 3 t) (iblk m c 4 t) (iblk m c 5 t) (View.ld (iblk m c 6 t) (Rect.unit ![0, 0] ![1, 128] inb_S8x128_S1x128_0_0)) (View.ld (iblk m c 6 t) (Rect.unit ![1, 0] ![1, 128] inb_S8x128_S1x128_1_0)) (View.ld (iblk m c 6 t) (Rect.unit ![2, 0] ![1, 128] inb_S8x128_S1x128_2_0)) r j (by omega) h0).trans ?_
    obtain ⟨K, e, hk⟩ := key_rot m c (k0_pay22 (k0_pay4 (iblk m c 0 t) (iblk m c 1 t)) (View.ld (iblk m c 2 t) (Rect.unit ![0, 1280] ![1024, 128] inb_S1024x8576_S1024x128_0_1280))) (iblk m c 3 t) (iblk m c 4 t) (iblk m c 5 t) (View.ld (iblk m c 6 t) (Rect.unit ![0, 0] ![1, 128] inb_S8x128_S1x128_0_0)) r i (fun q h => zs_lo m c t r i hi q (by omega)) (fun q h => (ld0 m c t q).trans (row0 m c q h)) j
    refine e.trans ?_
    by_cases h1 : j.val < 32
    · rw [rr0_lo m c i j h1]
      have e0 := hk j ⟨j.val, by omega⟩ rfl
      have e1 := hk ⟨(j.val + 128 - 96) % 128, Nat.mod_lt _ (by decide)⟩ ⟨32 + j.val, by omega⟩ (by dsimp only; omega)
      exact rope_lo m c t r i hi j ⟨j.val, by omega⟩ _ _ _ _ _ (by omega) (by dsimp only; omega) e0 e1
    · rw [rr0_hi m c i j (by omega) h0]
      have e0 := hk j ⟨j.val, by omega⟩ rfl
      have e1 := hk ⟨(j.val + 128 - 32) % 128, Nat.mod_lt _ (by decide)⟩ ⟨j.val - 32, by omega⟩ (by dsimp only; omega)
      exact rope_hi m c t r i hi j ⟨j.val - 32, by omega⟩ _ _ _ _ _ (by omega) (by dsimp only; omega) e0 e1
  by_cases h1 : j.val < 72
  · refine (n1 (k0_pay22 (k0_pay4 (iblk m c 0 t) (iblk m c 1 t)) (View.ld (iblk m c 2 t) (Rect.unit ![0, 1280] ![1024, 128] inb_S1024x8576_S1024x128_0_1280))) (iblk m c 3 t) (iblk m c 4 t) (iblk m c 5 t) (View.ld (iblk m c 6 t) (Rect.unit ![0, 0] ![1, 128] inb_S8x128_S1x128_0_0)) (View.ld (iblk m c 6 t) (Rect.unit ![1, 0] ![1, 128] inb_S8x128_S1x128_1_0)) (View.ld (iblk m c 6 t) (Rect.unit ![2, 0] ![1, 128] inb_S8x128_S1x128_2_0)) r j (by omega) h1).trans ?_
    rw [rr1 m c i j ⟨1280 + j.val, by omega⟩ rfl (by omega) h1, zs_lo m c t r i hi j h1]
  by_cases h2 : j.val < 76
  · refine (n2 (k0_pay22 (k0_pay4 (iblk m c 0 t) (iblk m c 1 t)) (View.ld (iblk m c 2 t) (Rect.unit ![0, 1280] ![1024, 128] inb_S1024x8576_S1024x128_0_1280))) (iblk m c 3 t) (iblk m c 4 t) (iblk m c 5 t) (View.ld (iblk m c 6 t) (Rect.unit ![0, 0] ![1, 128] inb_S8x128_S1x128_0_0)) (View.ld (iblk m c 6 t) (Rect.unit ![1, 0] ![1, 128] inb_S8x128_S1x128_1_0)) (View.ld (iblk m c 6 t) (Rect.unit ![2, 0] ![1, 128] inb_S8x128_S1x128_2_0)) r j (by omega) h2).trans ?_
    rw [rr2 m c i j ⟨2048 + j.val, by omega⟩ rfl (by omega) h2, zs_m m c t r i hi j (by omega) (by omega), ld1, row1_m m c j (by omega) h2]
  by_cases h3 : j.val < 80
  · refine (n3 (k0_pay22 (k0_pay4 (iblk m c 0 t) (iblk m c 1 t)) (View.ld (iblk m c 2 t) (Rect.unit ![0, 1280] ![1024, 128] inb_S1024x8576_S1024x128_0_1280))) (iblk m c 3 t) (iblk m c 4 t) (iblk m c 5 t) (View.ld (iblk m c 6 t) (Rect.unit ![0, 0] ![1, 128] inb_S8x128_S1x128_0_0)) (View.ld (iblk m c 6 t) (Rect.unit ![1, 0] ![1, 128] inb_S8x128_S1x128_1_0)) (View.ld (iblk m c 6 t) (Rect.unit ![2, 0] ![1, 128] inb_S8x128_S1x128_2_0)) r j (by omega) h3).trans ?_
    rw [rr3 m c i j ⟨2048 + j.val, by omega⟩ rfl (by omega) h3, zs_m m c t r i hi j (by omega) (by omega), ld1, row1_f m c j (by omega) h3]
  by_cases h4 : j.val < 84
  · refine (n4 (k0_pay22 (k0_pay4 (iblk m c 0 t) (iblk m c 1 t)) (View.ld (iblk m c 2 t) (Rect.unit ![0, 1280] ![1024, 128] inb_S1024x8576_S1024x128_0_1280))) (iblk m c 3 t) (iblk m c 4 t) (iblk m c 5 t) (View.ld (iblk m c 6 t) (Rect.unit ![0, 0] ![1, 128] inb_S8x128_S1x128_0_0)) (View.ld (iblk m c 6 t) (Rect.unit ![1, 0] ![1, 128] inb_S8x128_S1x128_1_0)) (View.ld (iblk m c 6 t) (Rect.unit ![2, 0] ![1, 128] inb_S8x128_S1x128_2_0)) r j (by omega) h4).trans ?_
    rw [rr4 m c i j ⟨4096 + j.val, by omega⟩ rfl (by omega) h4, zs_g m c t r i hi j (by omega) (by omega)]
  by_cases h5 : j.val < 88
  · refine (n5 (k0_pay22 (k0_pay4 (iblk m c 0 t) (iblk m c 1 t)) (View.ld (iblk m c 2 t) (Rect.unit ![0, 1280] ![1024, 128] inb_S1024x8576_S1024x128_0_1280))) (iblk m c 3 t) (iblk m c 4 t) (iblk m c 5 t) (View.ld (iblk m c 6 t) (Rect.unit ![0, 0] ![1, 128] inb_S8x128_S1x128_0_0)) (View.ld (iblk m c 6 t) (Rect.unit ![1, 0] ![1, 128] inb_S8x128_S1x128_1_0)) (View.ld (iblk m c 6 t) (Rect.unit ![2, 0] ![1, 128] inb_S8x128_S1x128_2_0)) r j (by omega) h5).trans ?_
    rw [rr5 m c i j ⟨4096 + j.val, by omega⟩ rfl (by omega) h5, zs_g m c t r i hi j (by omega) (by omega), ld1, ld2, row1_g m c j (by omega) h5, row2 m c j (by omega) h5]
  refine (n6 (k0_pay22 (k0_pay4 (iblk m c 0 t) (iblk m c 1 t)) (View.ld (iblk m c 2 t) (Rect.unit ![0, 1280] ![1024, 128] inb_S1024x8576_S1024x128_0_1280))) (iblk m c 3 t) (iblk m c 4 t) (iblk m c 5 t) (View.ld (iblk m c 6 t) (Rect.unit ![0, 0] ![1, 128] inb_S8x128_S1x128_0_0)) (View.ld (iblk m c 6 t) (Rect.unit ![1, 0] ![1, 128] inb_S8x128_S1x128_1_0)) (View.ld (iblk m c 6 t) (Rect.unit ![2, 0] ![1, 128] inb_S8x128_S1x128_2_0)) r j (by omega) j.isLt).trans ?_
  rw [rr6 m c i j (by omega) j.isLt]

theorem emb9 (t : Fin cfg0.N) (y : ((cfg0.win 9).xblock (cfg0.grid.coords t)).Idx) :
    ((View.whole main_v69_2).slice (win0_9.rect t)).emb y = ix2 (row t (y 0)) (y 1) := by
  blk_ext [idx t]

theorem eta9 (y : S256x128.Idx) : y = ix2 (y 0) (y 1) := by
  idx_vars y
  rfl

theorem final9 (c : Dev nD) : (dats m 0 c).arrAt 9 (cfgs 0).N = out_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]; frame_out
  rw [emb9]
  exact (congrArg _ (eta9 y)).trans (narrow m c t (y 0) _ rfl (y 1))

end Cert.Kernel5Ideal.Proj

end
-- ==== Proof.ProjRun.lean ====
/- What the projection's reference leaves in its results. -/
module

public import proofs.«01_k».proof.Proof.Gen.Reference5Ideal.Run
public import proofs.«01_k».proof.Proof.ProjRef
public import Idealize.ShloMosaic.Lib.Claim

@[expose] public section

set_option maxRecDepth 16384

noncomputable section

open Idealize.ShloMosaic Idealize.ShloMosaic.TcCoe Idealize.SL.Sem

namespace Cert.Reference5Ideal.Proj

open Cert.Reference5Ideal Cert.Reference5Ideal.Gen

/-- The reference runs, leaves its seven results as functions of its arguments, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v191) = out_v191 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v124) = out_v124 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v190) = out_v190 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v192) = out_v192 (m ((c.tc : Thread nD τ).loc main_arg0)) (m ((c.tc : Thread nD τ).loc main_arg1)) (m ((c.tc : Thread nD τ).loc main_arg2))
      ∧ r.2.mem ((c.tc : Thread nD τ).loc main_v26) = out_v26 (m ((c.tc : Thread nD τ).loc main_arg0)) (m ((c.tc : Thread nD τ).loc main_arg1)) (m ((c.tc : Thread nD τ).loc main_arg2))
      ∧ r.2.mem ((c.tc : Thread nD τ).loc main_v193) = out_v193 (m ((c.tc : Thread nD τ).loc main_arg0)) (m ((c.tc : Thread nD τ).loc main_arg1)) (m ((c.tc : Thread nD τ).loc main_arg2))
      ∧ r.2.mem ((c.tc : Thread nD τ).loc main_v31) = out_v31 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine θ_run_mono (Cert.Reference5Ideal.Value.run m ρ) ?_
  intro r h c
  obtain ⟨h0, h1, h2, h3, h4, h5, h6, h⟩ := h c
  exact ⟨h0, h1, h2, h3, h4, h5, h6, h⟩

end Cert.Reference5Ideal.Proj

end
-- ==== Proof.ProjClaims.lean ====
/- The claims about the kernel `Kernel5` and its reference. -/
module
public import proofs.«01_k».proof.Defs
public import Idealize.ShloMosaic.Lib.Quiescent
public import proofs.«01_k».proof.Proof.Gen.Kernel5.Frame
public import proofs.«01_k».proof.Proof.Gen.Kernel5Ideal.Value
public import proofs.«01_k».proof.Proof.Gen.Reference5Ideal.Run
public import proofs.«01_k».proof.Proof.ProjNarrow
public import proofs.«01_k».proof.Proof.ProjRun

@[expose] public section

set_option maxRecDepth 16384

noncomputable section

namespace Cert.Proof

open Idealize.ShloMosaic Idealize.ShloMosaic.TcCoe Idealize.SL.Sem

theorem frame_Kernel5 : @Cert.quiescent_Kernel5 Cert.Kernel5.Gen.facts := fun m ρ _ => Cert.Kernel5.Gen.frame m ρ

theorem frame_Kernel5Ideal : @Cert.quiescent_Kernel5Ideal Cert.Kernel5Ideal.Gen.facts := fun m ρ _ => Cert.Kernel5Ideal.Gen.frame m ρ

theorem frame_Reference5Ideal : @Cert.quiescent_Reference5Ideal Cert.Reference5Ideal.Gen.facts := by
  intro m g _
  exact (θ_run _ _ _).mono (fun r h => ⟨fun c => (h c).2.2.2.2.2.2.2, sem_eq_zero_of_no_sems rfl r.2⟩) (Cert.Reference5Ideal.Value.run m g)

theorem back7 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) (e3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    Cert.Reference5Ideal.Proj.out_v191 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = (Cert.Kernel5Ideal.Gen.dats m 0 c).arrAt 7 (Cert.Kernel5Ideal.cfgs 0).N := by
  rw [e0, e1, e2, e3]
  exact (Cert.Kernel5Ideal.Proj.final7 m c).symm

theorem back8 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) (e3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    Cert.Reference5Ideal.Proj.out_v124 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = (Cert.Kernel5Ideal.Gen.dats m 0 c).arrAt 8 (Cert.Kernel5Ideal.cfgs 0).N := by
  rw [e0, e1, e2, e3]
  exact (Cert.Kernel5Ideal.Proj.final8 m c).symm

theorem back9 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) (e3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) (e4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) (e5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) (e6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) (e7 : m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) (e8 : m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) :
    Cert.Reference5Ideal.Proj.out_v190 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = (Cert.Kernel5Ideal.Gen.dats m 0 c).arrAt 9 (Cert.Kernel5Ideal.cfgs 0).N := by
  rw [e0, e1, e2, e3, e4, e5, e6, e7, e8]
  exact (Cert.Kernel5Ideal.Proj.final9 m c).symm

theorem back10 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    Cert.Reference5Ideal.Proj.out_v192 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = (Cert.Kernel5Ideal.Gen.dats m 0 c).arrAt 10 (Cert.Kernel5Ideal.cfgs 0).N := by
  rw [e0, e1, e2]
  exact (Cert.Kernel5Ideal.Proj.final10 m c).symm

theorem back11 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    Cert.Reference5Ideal.Proj.out_v26 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = (Cert.Kernel5Ideal.Gen.dats m 0 c).arrAt 11 (Cert.Kernel5Ideal.cfgs 0).N := by
  rw [e0, e1, e2]
  exact (Cert.Kernel5Ideal.Proj.final11 m c).symm

theorem back12 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    Cert.Reference5Ideal.Proj.out_v193 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = (Cert.Kernel5Ideal.Gen.dats m 0 c).arrAt 12 (Cert.Kernel5Ideal.cfgs 0).N := by
  rw [e0, e1, e2]
  exact (Cert.Kernel5Ideal.Proj.final12 m c).symm

theorem back13 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    Cert.Reference5Ideal.Proj.out_v31 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = (Cert.Kernel5Ideal.Gen.dats m 0 c).arrAt 13 (Cert.Kernel5Ideal.cfgs 0).N := by
  rw [e0, e1, e2]
  exact (Cert.Kernel5Ideal.Proj.final13 m c).symm

/-- The kernel runs and leaves its seven arrays at what the pipeline writes. -/
theorem run_kernel5 (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ fun r => ∀ c : Dev Cert.Kernel5Ideal.nD,
      r.2.mem ((c.tc : Thread Cert.Kernel5Ideal.nD Cert.Kernel5Ideal.τ).loc Cert.Kernel5Ideal.main_v69_0) = (Cert.Kernel5Ideal.Gen.dats m 0 c).arrAt 7 (Cert.Kernel5Ideal.cfgs 0).N
      ∧ r.2.mem ((c.tc : Thread Cert.Kernel5Ideal.nD Cert.Kernel5Ideal.τ).loc Cert.Kernel5Ideal.main_v69_1) = (Cert.Kernel5Ideal.Gen.dats m 0 c).arrAt 8 (Cert.Kernel5Ideal.cfgs 0).N
      ∧ r.2.mem ((c.tc : Thread Cert.Kernel5Ideal.nD Cert.Kernel5Ideal.τ).loc Cert.Kernel5Ideal.main_v69_2) = (Cert.Kernel5Ideal.Gen.dats m 0 c).arrAt 9 (Cert.Kernel5Ideal.cfgs 0).N
      ∧ r.2.mem ((c.tc : Thread Cert.Kernel5Ideal.nD Cert.Kernel5Ideal.τ).loc Cert.Kernel5Ideal.main_v69_3) = (Cert.Kernel5Ideal.Gen.dats m 0 c).arrAt 10 (Cert.Kernel5Ideal.cfgs 0).N
      ∧ r.2.mem ((c.tc : Thread Cert.Kernel5Ideal.nD Cert.Kernel5Ideal.τ).loc Cert.Kernel5Ideal.main_v69_4) = (Cert.Kernel5Ideal.Gen.dats m 0 c).arrAt 11 (Cert.Kernel5Ideal.cfgs 0).N
      ∧ r.2.mem ((c.tc : Thread Cert.Kernel5Ideal.nD Cert.Kernel5Ideal.τ).loc Cert.Kernel5Ideal.main_v69_5) = (Cert.Kernel5Ideal.Gen.dats m 0 c).arrAt 12 (Cert.Kernel5Ideal.cfgs 0).N
      ∧ r.2.mem ((c.tc : Thread Cert.Kernel5Ideal.nD Cert.Kernel5Ideal.τ).loc Cert.Kernel5Ideal.main_v69_6) = (Cert.Kernel5Ideal.Gen.dats m 0 c).arrAt 13 (Cert.Kernel5Ideal.cfgs 0).N
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8) := by
  refine θ_run_mono (θ_run_and (Cert.Kernel5Ideal.Gen.run_main m g) (Cert.Kernel5Ideal.Gen.unchanged m g)) ?_
  intro r hr c
  exact ⟨(hr.1 c).1 7, (hr.1 c).1 8, (hr.1 c).1 9, (hr.1 c).1 10, (hr.1 c).1 11, (hr.1 c).1 12, (hr.1 c).1 13, hr.2 c⟩

/-- The reference, from the same arguments, leaves the same seven arrays. -/
theorem run_reference5 (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ) (g' : Dev Cert.Reference5Ideal.nD → PrngReg)
    (hagree : ∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) :
    θ_run (Cert.Reference5Ideal.defs (F := Ideal)) (onTc (τ := Cert.Reference5Ideal.τ) (Cert.Reference5Ideal.main (F := Ideal))) ⟨m', fun _ => 0, g'⟩ fun r => ∀ c : Dev Cert.Reference5Ideal.nD,
      r.2.mem ((c.tc : Thread Cert.Reference5Ideal.nD Cert.Reference5Ideal.τ).loc Cert.Reference5Ideal.main_v191) = (Cert.Kernel5Ideal.Gen.dats m 0 c).arrAt 7 (Cert.Kernel5Ideal.cfgs 0).N
      ∧ r.2.mem ((c.tc : Thread Cert.Reference5Ideal.nD Cert.Reference5Ideal.τ).loc Cert.Reference5Ideal.main_v124) = (Cert.Kernel5Ideal.Gen.dats m 0 c).arrAt 8 (Cert.Kernel5Ideal.cfgs 0).N
      ∧ r.2.mem ((c.tc : Thread Cert.Reference5Ideal.nD Cert.Reference5Ideal.τ).loc Cert.Reference5Ideal.main_v190) = (Cert.Kernel5Ideal.Gen.dats m 0 c).arrAt 9 (Cert.Kernel5Ideal.cfgs 0).N
      ∧ r.2.mem ((c.tc : Thread Cert.Reference5Ideal.nD Cert.Reference5Ideal.τ).loc Cert.Reference5Ideal.main_v192) = (Cert.Kernel5Ideal.Gen.dats m 0 c).arrAt 10 (Cert.Kernel5Ideal.cfgs 0).N
      ∧ r.2.mem ((c.tc : Thread Cert.Reference5Ideal.nD Cert.Reference5Ideal.τ).loc Cert.Reference5Ideal.main_v26) = (Cert.Kernel5Ideal.Gen.dats m 0 c).arrAt 11 (Cert.Kernel5Ideal.cfgs 0).N
      ∧ r.2.mem ((c.tc : Thread Cert.Reference5Ideal.nD Cert.Reference5Ideal.τ).loc Cert.Reference5Ideal.main_v193) = (Cert.Kernel5Ideal.Gen.dats m 0 c).arrAt 12 (Cert.Kernel5Ideal.cfgs 0).N
      ∧ r.2.mem ((c.tc : Thread Cert.Reference5Ideal.nD Cert.Reference5Ideal.τ).loc Cert.Reference5Ideal.main_v31) = (Cert.Kernel5Ideal.Gen.dats m 0 c).arrAt 13 (Cert.Kernel5Ideal.cfgs 0).N
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8) := by
  refine θ_run_mono (Cert.Reference5Ideal.Proj.run m' g') ?_
  intro r h c
  have e := hagree c
  have hc := h c
  exact ⟨hc.1.trans (back7 m m' c (e.1) (e.2.1) (e.2.2.1) (e.2.2.2.1)), hc.2.1.trans (back8 m m' c (e.1) (e.2.1) (e.2.2.1) (e.2.2.2.1)), hc.2.2.1.trans (back9 m m' c (e.1) (e.2.1) (e.2.2.1) (e.2.2.2.1) (e.2.2.2.2.1) (e.2.2.2.2.2.1) (e.2.2.2.2.2.2.1) (e.2.2.2.2.2.2.2.1) (e.2.2.2.2.2.2.2.2)), hc.2.2.2.1.trans (back10 m m' c (e.1) (e.2.1) (e.2.2.1)), hc.2.2.2.2.1.trans (back11 m m' c (e.1) (e.2.1) (e.2.2.1)), hc.2.2.2.2.2.1.trans (back12 m m' c (e.1) (e.2.1) (e.2.2.1)), hc.2.2.2.2.2.2.1.trans (back13 m m' c (e.1) (e.2.1) (e.2.2.1)), hc.2.2.2.2.2.2.2⟩

theorem algebraic_5 : @Cert.algebraic_Kernel5Ideal_Reference5Ideal Cert.Kernel5Ideal.Gen.facts Cert.Reference5Ideal.Gen.facts := by
  intro m g m' g' _ hagree
  exact ⟨fun c => (Cert.Kernel5Ideal.Gen.dats m 0 c).arrAt 7 (Cert.Kernel5Ideal.cfgs 0).N, fun c => (Cert.Kernel5Ideal.Gen.dats m 0 c).arrAt 8 (Cert.Kernel5Ideal.cfgs 0).N, fun c => (Cert.Kernel5Ideal.Gen.dats m 0 c).arrAt 9 (Cert.Kernel5Ideal.cfgs 0).N, fun c => (Cert.Kernel5Ideal.Gen.dats m 0 c).arrAt 10 (Cert.Kernel5Ideal.cfgs 0).N, fun c => (Cert.Kernel5Ideal.Gen.dats m 0 c).arrAt 11 (Cert.Kernel5Ideal.cfgs 0).N, fun c => (Cert.Kernel5Ideal.Gen.dats m 0 c).arrAt 12 (Cert.Kernel5Ideal.cfgs 0).N, fun c => (Cert.Kernel5Ideal.Gen.dats m 0 c).arrAt 13 (Cert.Kernel5Ideal.cfgs 0).N, run_kernel5 m g, run_reference5 m m' g' hagree⟩

end Cert.Proof

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.FfnClaims
public import proofs.«01_k».proof.Proof.MergeClaims
public import proofs.«01_k».proof.Proof.FinalNormClaims
public import proofs.«01_k».proof.Proof.ProjClaims
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, frame_Kernel2, frame_Kernel2Ideal, frame_Reference2Ideal, frame_Kernel3, frame_Kernel3Ideal, frame_Reference3Ideal, frame_Kernel4, frame_Kernel4Ideal, frame_Reference4Ideal, frame_Kernel5, frame_Kernel5Ideal, frame_Reference5Ideal, trivial, algebraic_2, trivial, algebraic_3, trivial, algebraic_4, trivial, algebraic_5⟩

end Cert.Proof

end
